-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer_norms_at_init [hPre_layer_norms_at_init : Cert.Pre_layer_norms_at_init.Facts] (m : (ℓ : Loc Cert.KernelIdeal.nD Cert.KernelIdeal.τ Cert.KernelIdeal.sig) → Buf (Elt Ideal) ℓ) : Prop :=
  ∀ c : Dev Cert.KernelIdeal.nD,
    (Cert.Pre_layer_norms_at_init.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_norms_at_init [hPre_layer_norms_at_init : Cert.Pre_layer_norms_at_init.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_norms_at_init.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_layer_norms_at_init [hKernelIdeal : Cert.KernelIdeal.Facts] [hPre_layer_norms_at_init : Cert.Pre_layer_norms_at_init.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_norms_at_init m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_layer_norms_at_init [hReferenceIdeal : Cert.ReferenceIdeal.Facts] [hPre_layer_norms_at_init : Cert.Pre_layer_norms_at_init.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_norms_at_init m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_layer_norms_at_init [hKernelIdeal : Cert.KernelIdeal.Facts] [hReferenceIdeal : Cert.ReferenceIdeal.Facts] [hPre_layer_norms_at_init : Cert.Pre_layer_norms_at_init.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_norms_at_init m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_layer_norms_at_init : Cert.Pre_layer_norms_at_init.Facts),
    quiescent_Kernel (hKernel := hKernel)
    ∧ quiescent_KernelIdeal (hKernelIdeal := hKernelIdeal)
    ∧ quiescent_KernelIdeal_pre_layer_norms_at_init (hKernelIdeal := hKernelIdeal) (hPre_layer_norms_at_init := hPre_layer_norms_at_init)
    ∧ quiescent_ReferenceIdeal (hReferenceIdeal := hReferenceIdeal)
    ∧ quiescent_ReferenceIdeal_pre_layer_norms_at_init (hReferenceIdeal := hReferenceIdeal) (hPre_layer_norms_at_init := hPre_layer_norms_at_init)
    ∧ preserves_Kernel_KernelIdeal
    ∧ algebraic_KernelIdeal_ReferenceIdeal_pre_layer_norms_at_init (hKernelIdeal := hKernelIdeal) (hReferenceIdeal := hReferenceIdeal) (hPre_layer_norms_at_init := hPre_layer_norms_at_init)
-- ==== Pre_layer_norms_at_init.lean ====
abbrev S16x4096 : Shape := ⟨2, ![16, 4096]⟩
abbrev S4096x16 : Shape := ⟨2, ![4096, 16]⟩
abbrev S17x64 : Shape := ⟨2, ![17, 64]⟩
abbrev S64 : Shape := ⟨1, ![64]⟩
abbrev S64x16 : Shape := ⟨2, ![64, 16]⟩
abbrev S16 : Shape := ⟨1, ![16]⟩
abbrev S16x128 : Shape := ⟨2, ![16, 128]⟩
abbrev S128 : Shape := ⟨1, ![128]⟩
abbrev S128x64 : Shape := ⟨2, ![128, 64]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S17x64 : S_.BroadcastsInDim S17x64 (![] : Fin 0 → Fin S17x64.rank)
  reducesTo_S17x64_S_d0_1 : S17x64.ReducesTo [0, 1] S_
  bcast_S_S64x16 : S_.BroadcastsInDim S64x16 (![] : Fin 0 → Fin S64x16.rank)
  reducesTo_S64x16_S_d0_1 : S64x16.ReducesTo [0, 1] S_
  bcast_S_S16x128 : S_.BroadcastsInDim S16x128 (![] : Fin 0 → Fin S16x128.rank)
  reducesTo_S16x128_S_d0_1 : S16x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_
  bcast_S_S128 : S_.BroadcastsInDim S128 (![] : Fin 0 → Fin S128.rank)
  reducesTo_S128_S_d0 : S128.ReducesTo [0] S_

variable [Facts]

def fn_part4 {F : FTy → Type} [FloatOps F] (main_arg13 : FVec F S128 .f32) (main_arg17 : FVec F S64 .f32) (main_v28 : IVec S_ 1) (main_v59 : IVec S_ 1) (main_v62 : IVec S_ 1) (main_v64 : IVec S16 1) : IVec S_ 1 :=
  let main_c_29 : IVec S_ 1 := constantI S_ 1 1#1
  let main_v65 : IVec S_ 1 := (fun x v => Host.reduce IntOp.andi x v reducesTo_S16_S_d0 h_S_) main_v64 main_c_29
  let main_v66 : IVec S_ 1 := andi main_v62 main_v65
  let main_cst_30 : FVec F S_ .f32 := constant S_ .f32 0x3F800000#32
  let main_v67 : FVec F S128 .f32 := broadcastInDim S128 ![] bcast_S_S128 main_cst_30
  let main_v68 : IVec S128 1 := cmpf .oeq main_arg13 main_v67
  let main_c_31 : IVec S_ 1 := constantI S_ 1 1#1
  let main_v69 : IVec S_ 1 := (fun x v => Host.reduce IntOp.andi x v reducesTo_S128_S_d0 h_S_) main_v68 main_c_31
  let main_v70 : IVec S_ 1 := andi main_v66 main_v69
  let main_cst_32 : FVec F S_ .f32 := constant S_ .f32 0x3F800000#32
  let main_v71 : FVec F S64 .f32 := broadcastInDim S64 ![] bcast_S_S64 main_cst_32
  let main_v72 : IVec S64 1 := cmpf .oeq main_arg17 main_v71
  let main_c_33 : IVec S_ 1 := constantI S_ 1 1#1
  let main_v73 : IVec S_ 1 := (fun x v => Host.reduce IntOp.andi x v reducesTo_S64_S_d0 h_S_) main_v72 main_c_33
  let main_v74 : IVec S_ 1 := andi main_v70 main_v73
  let main_v75 : IVec S_ 1 := andi main_v28 main_v59
  let main_v76 : IVec S_ 1 := andi main_v75 main_v74
  main_v76

def fn_part3 {F : FTy → Type} [FloatOps F] (main_arg5 : FVec F S64 .f32) (main_arg9 : FVec F S16 .f32) (main_arg13 : FVec F S128 .f32) (main_arg14 : FVec F S128 .f32) (main_arg16 : FVec F S64 .f32) (main_arg17 : FVec F S64 .f32) (main_arg18 : FVec F S64 .f32) (main_v28 : IVec S_ 1) (main_v47 : IVec S_ 1) (main_v48 : FVec F S128 .f32) : IVec S_ 1 :=
  let main_v49 : IVec S128 1 := cmpf .oeq main_arg14 main_v48
  let main_c_21 : IVec S_ 1 := constantI S_ 1 1#1
  let main_v50 : IVec S_ 1 := (fun x v => Host.reduce IntOp.andi x v reducesTo_S128_S_d0 h_S_) main_v49 main_c_21
  let main_v51 : IVec S_ 1 := andi main_v47 main_v50
  let main_cst_22 : FVec F S_ .f32 := constant S_ .f32 0x00000000#32
  let main_v52 : FVec F S64 .f32 := broadcastInDim S64 ![] bcast_S_S64 main_cst_22
  let main_v53 : IVec S64 1 := cmpf .oeq main_arg16 main_v52
  let main_c_23 : IVec S_ 1 := constantI S_ 1 1#1
  let main_v54 : IVec S_ 1 := (fun x v => Host.reduce IntOp.andi x v reducesTo_S64_S_d0 h_S_) main_v53 main_c_23
  let main_v55 : IVec S_ 1 := andi main_v51 main_v54
  let main_cst_24 : FVec F S_ .f32 := constant S_ .f32 0x00000000#32
  let main_v56 : FVec F S64 .f32 := broadcastInDim S64 ![] bcast_S_S64 main_cst_24
  let main_v57 : IVec S64 1 := cmpf .oeq main_arg18 main_v56
  let main_c_25 : IVec S_ 1 := constantI S_ 1 1#1
  let main_v58 : IVec S_ 1 := (fun x v => Host.reduce IntOp.andi x v reducesTo_S64_S_d0 h_S_) main_v57 main_c_25
  let main_v59 : IVec S_ 1 := andi main_v55 main_v58
  let main_cst_26 : FVec F S_ .f32 := constant S_ .f32 0x3F800000#32
  let main_v60 : FVec F S64 .f32 := broadcastInDim S64 ![] bcast_S_S64 main_cst_26
  let main_v61 : IVec S64 1 := cmpf .oeq main_arg5 main_v60
  let main_c_27 : IVec S_ 1 := constantI S_ 1 1#1
  let main_v62 : IVec S_ 1 := (fun x v => Host.reduce IntOp.andi x v reducesTo_S64_S_d0 h_S_) main_v61 main_c_27
  let main_cst_28 : FVec F S_ .f32 := constant S_ .f32 0x3F800000#32
  let main_v63 : FVec F S16 .f32 := broadcastInDim S16 ![] bcast_S_S16 main_cst_28
  let main_v64 : IVec S16 1 := cmpf .oeq main_arg9 main_v63
  fn_part4 (F := F) main_arg13 main_arg17 main_v28 main_v59 main_v62 main_v64

def fn_part2 {F : FTy → Type} [FloatOps F] (main_arg5 : FVec F S64 .f32) (main_arg6 : FVec F S64 .f32) (main_arg8 : FVec F S16 .f32) (main_arg9 : FVec F S16 .f32) (main_arg10 : FVec F S16 .f32) (main_arg12 : FVec F S128 .f32) (main_arg13 : FVec F S128 .f32) (main_arg14 : FVec F S128 .f32) (main_arg16 : FVec F S64 .f32) (main_arg17 : FVec F S64 .f32) (main_arg18 : FVec F S64 .f32) (main_v28 : IVec S_ 1) (main_v31 : IVec S_ 1) (main_v32 : FVec F S64 .f32) : IVec S_ 1 :=
  let main_v33 : IVec S64 1 := cmpf .oeq main_arg6 main_v32
  let main_c_13 : IVec S_ 1 := constantI S_ 1 1#1
  let main_v34 : IVec S_ 1 := (fun x v => Host.reduce IntOp.andi x v reducesTo_S64_S_d0 h_S_) main_v33 main_c_13
  let main_v35 : IVec S_ 1 := andi main_v31 main_v34
  let main_cst_14 : FVec F S_ .f32 := constant S_ .f32 0x00000000#32
  let main_v36 : FVec F S16 .f32 := broadcastInDim S16 ![] bcast_S_S16 main_cst_14
  let main_v37 : IVec S16 1 := cmpf .oeq main_arg8 main_v36
  let main_c_15 : IVec S_ 1 := constantI S_ 1 1#1
  let main_v38 : IVec S_ 1 := (fun x v => Host.reduce IntOp.andi x v reducesTo_S16_S_d0 h_S_) main_v37 main_c_15
  let main_v39 : IVec S_ 1 := andi main_v35 main_v38
  let main_cst_16 : FVec F S_ .f32 := constant S_ .f32 0x00000000#32
  let main_v40 : FVec F S16 .f32 := broadcastInDim S16 ![] bcast_S_S16 main_cst_16
  let main_v41 : IVec S16 1 := cmpf .oeq main_arg10 main_v40
  let main_c_17 : IVec S_ 1 := constantI S_ 1 1#1
  let main_v42 : IVec S_ 1 := (fun x v => Host.reduce IntOp.andi x v reducesTo_S16_S_d0 h_S_) main_v41 main_c_17
  let main_v43 : IVec S_ 1 := andi main_v39 main_v42
  let main_cst_18 : FVec F S_ .f32 := constant S_ .f32 0x00000000#32
  let main_v44 : FVec F S128 .f32 := broadcastInDim S128 ![] bcast_S_S128 main_cst_18
  let main_v45 : IVec S128 1 := cmpf .oeq main_arg12 main_v44
  let main_c_19 : IVec S_ 1 := constantI S_ 1 1#1
  let main_v46 : IVec S_ 1 := (fun x v => Host.reduce IntOp.andi x v reducesTo_S128_S_d0 h_S_) main_v45 main_c_19
  let main_v47 : IVec S_ 1 := andi main_v43 main_v46
  let main_cst_20 : FVec F S_ .f32 := constant S_ .f32 0x00000000#32
  let main_v48 : FVec F S128 .f32 := broadcastInDim S128 ![] bcast_S_S128 main_cst_20
  fn_part3 (F := F) main_arg5 main_arg9 main_arg13 main_arg14 main_arg16 main_arg17 main_arg18 main_v28 main_v47 main_v48

def fn_part1 {F : FTy → Type} [FloatOps F] (main_arg4 : FVec F S64 .f32) (main_arg5 : FVec F S64 .f32) (main_arg6 : FVec F S64 .f32) (main_arg8 : FVec F S16 .f32) (main_arg9 : FVec F S16 .f32) (main_arg10 : FVec F S16 .f32) (main_arg11 : FVec F S16x128 .f32) (main_arg12 : FVec F S128 .f32) (main_arg13 : FVec F S128 .f32) (main_arg14 : FVec F S128 .f32) (main_arg15 : FVec F S128x64 .f32) (main_arg16 : FVec F S64 .f32) (main_arg17 : FVec F S64 .f32) (main_arg18 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16x128 .f32 := Host.absf main_arg11
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128x64 .f32 := Host.absf main_arg15
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oeq main_arg4 main_v29
  let main_c_11 : IVec S_ 1 := constantI S_ 1 1#1
  let main_v31 : IVec S_ 1 := (fun x v => Host.reduce IntOp.andi x v reducesTo_S64_S_d0 h_S_) main_v30 main_c_11
  let main_cst_12 : FVec F S_ .f32 := constant S_ .f32 0x00000000#32
  let main_v32 : FVec F S64 .f32 := broadcastInDim S64 ![] bcast_S_S64 main_cst_12
  fn_part2 (F := F) main_arg5 main_arg6 main_arg8 main_arg9 main_arg10 main_arg12 main_arg13 main_arg14 main_arg16 main_arg17 main_arg18 main_v28 main_v31 main_v32

def fn {F : FTy → Type} [FloatOps F] (main_arg0 : FVec F S16x4096 .f32) (main_arg1 : IVec S16x4096 32) (main_arg2 : FVec F S4096x16 .f32) (main_arg3 : FVec F S17x64 .f32) (main_arg4 : FVec F S64 .f32) (main_arg5 : FVec F S64 .f32) (main_arg6 : FVec F S64 .f32) (main_arg7 : FVec F S64x16 .f32) (main_arg8 : FVec F S16 .f32) (main_arg9 : FVec F S16 .f32) (main_arg10 : FVec F S16 .f32) (main_arg11 : FVec F S16x128 .f32) (main_arg12 : FVec F S128 .f32) (main_arg13 : FVec F S128 .f32) (main_arg14 : FVec F S128 .f32) (main_arg15 : FVec F S128x64 .f32) (main_arg16 : FVec F S64 .f32) (main_arg17 : FVec F S64 .f32) (main_arg18 : FVec F S64 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S17x64 .f32 := Host.absf main_arg3
  let main_cst_2 : FVec F S_ .f32 := constant S_ .f32 0x7F800000#32
  let main_v10 : FVec F S17x64 .f32 := broadcastInDim S17x64 ![] bcast_S_S17x64 main_cst_2
  let main_v11 : IVec S17x64 1 := cmpf .olt main_v9 main_v10
  let main_c_3 : IVec S_ 1 := constantI S_ 1 1#1
  let main_v12 : IVec S_ 1 := (fun x v => Host.reduce IntOp.andi x v reducesTo_S17x64_S_d0_1 h_S_) main_v11 main_c_3
  let main_v13 : IVec S_ 1 := andi main_v8 main_v12
  let main_v14 : FVec F S64x16 .f32 := Host.absf main_arg7
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg8 main_arg9 main_arg10 main_arg11 main_arg12 main_arg13 main_arg14 main_arg15 main_arg16 main_arg17 main_arg18 main_v13 main_v16
-- ==== Kernel.lean ====
abbrev S16x4096 : Shape := ⟨2, ![16, 4096]⟩
abbrev S4096x16 : Shape := ⟨2, ![4096, 16]⟩
abbrev S17x64 : Shape := ⟨2, ![17, 64]⟩
abbrev S64 : Shape := ⟨1, ![64]⟩
abbrev S64x16 : Shape := ⟨2, ![64, 16]⟩
abbrev S16 : Shape := ⟨1, ![16]⟩
abbrev S16x128 : Shape := ⟨2, ![16, 128]⟩
abbrev S128 : Shape := ⟨1, ![128]⟩
abbrev S128x64 : Shape := ⟨2, ![128, 64]⟩
abbrev S16x32 : Shape := ⟨2, ![16, 32]⟩
abbrev S64x17 : Shape := ⟨2, ![64, 17]⟩
abbrev S64x1 : Shape := ⟨2, ![64, 1]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S64x4096 : Shape := ⟨2, ![64, 4096]⟩
abbrev S1x4096 : Shape := ⟨2, ![1, 4096]⟩
abbrev S16x64 : Shape := ⟨2, ![16, 64]⟩
abbrev S1x16 : Shape := ⟨2, ![1, 16]⟩
abbrev S16x1 : Shape := ⟨2, ![16, 1]⟩
abbrev S17x4096 : Shape := ⟨2, ![17, 4096]⟩
abbrev S16x16 : Shape := ⟨2, ![16, 16]⟩

abbrev nBuf : Space → Nat
  | .hbm => 21
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S16x4096, .i32⟩
  | .hbm, ⟨2, _⟩ => ⟨S4096x16, .f32⟩
  | .hbm, ⟨3, _⟩ => ⟨S17x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S16x32, .f32⟩
  | .hbm, ⟨20, _⟩ => ⟨S16x32, .f32⟩
  | .local _ .vmem, ⟨0, _⟩ => ⟨S16x4096, .f32⟩
  | .local _ .vmem, ⟨1, _⟩ => ⟨S16x4096, .i32⟩
  | .local _ .vmem, ⟨2, _⟩ => ⟨S4096x16, .f32⟩
  | .local _ .vmem, ⟨3, _⟩ => ⟨S17x64, .f32⟩
  | .local _ .vmem, ⟨4, _⟩ => ⟨S64x16, .f32⟩
  | .local _ .vmem, ⟨5, _⟩ => ⟨S16x128, .f32⟩
  | .local _ .vmem, ⟨6, _⟩ => ⟨S128x64, .f32⟩
  | .local _ .vmem, ⟨7, _⟩ => ⟨S16x32, .f32⟩
  | .local _ .vmem, ⟨8, _⟩ => ⟨S16x32, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S16x4096 : Shape := ⟨2, ![16, 4096]⟩
abbrev S4096x16 : Shape := ⟨2, ![4096, 16]⟩
abbrev S17x64 : Shape := ⟨2, ![17, 64]⟩
abbrev S64 : Shape := ⟨1, ![64]⟩
abbrev S64x16 : Shape := ⟨2, ![64, 16]⟩
abbrev S16 : Shape := ⟨1, ![16]⟩
abbrev S16x128 : Shape := ⟨2, ![16, 128]⟩
abbrev S128 : Shape := ⟨1, ![128]⟩
abbrev S128x64 : Shape := ⟨2, ![128, 64]⟩
abbrev S1x4096x16 : Shape := ⟨3, ![1, 4096, 16]⟩
abbrev S16x4096x16 : Shape := ⟨3, ![16, 4096, 16]⟩
abbrev S16x4096x1 : Shape := ⟨3, ![16, 4096, 1]⟩
abbrev S16x4096x17 : Shape := ⟨3, ![16, 4096, 17]⟩
abbrev S16x4096x64 : Shape := ⟨3, ![16, 4096, 64]⟩
abbrev S1x1x64 : Shape := ⟨3, ![1, 1, 64]⟩
abbrev S_ : Shape := ⟨0, ![]⟩
abbrev S1x1x16 : Shape := ⟨3, ![1, 1, 16]⟩
abbrev S16x16 : Shape := ⟨2, ![16, 16]⟩
abbrev S16x1 : Shape := ⟨2, ![16, 1]⟩
abbrev S1x128 : Shape := ⟨2, ![1, 128]⟩
abbrev S16x64 : Shape := ⟨2, ![16, 64]⟩
abbrev S1x64 : Shape := ⟨2, ![1, 64]⟩
abbrev S16x32 : Shape := ⟨2, ![16, 32]⟩

abbrev nBuf : Space → Nat
  | .hbm => 252
  | .vmem => 0
  | .smem => 0
  | _ => 0

abbrev hbmTy0_0 (i : Nat) : BufTy := match i % 128 with
  | 0 => ⟨S16x4096, .f32⟩
  | 1 => ⟨S16x4096, .i32⟩
  | 2 => ⟨S4096x16, .f32⟩
  | 3 => ⟨S17x64, .f32⟩
  | 4 => ⟨S64, .f32⟩
  | 5 => ⟨S64, .f32⟩
  | 6 => ⟨S64, .f32⟩
  | 7 => ⟨S64x16, .f32⟩
  | 8 => ⟨S16, .f32⟩
  | 9 => ⟨S16, .f32⟩
  | 10 => ⟨S16, .f32⟩
  | 11 => ⟨S16x128, .f32⟩
  | 12 => ⟨S128, .f32⟩
  | 13 => ⟨S128, .f32⟩
  | 14 => ⟨S128, .f32⟩
  | 15 => ⟨S128x64, .f32⟩
  | 16 => ⟨S64, .f32⟩
  | 17 => ⟨S64, .f32⟩
  | 18 => ⟨S64, .f32⟩
  | 19 => ⟨S1x4096x16, .f32⟩
  | 20 => ⟨S16x4096x16, .f32⟩
  | 21 => ⟨S16x4096x1, .f32⟩
  | 22 => ⟨S16x4096x17, .f32⟩
  | 23 => ⟨S16x4096x64, .f32⟩
  | 24 => ⟨S1x1x64, .f32⟩
  | 25 => ⟨S16x4096x64, .f32⟩
  | 26 => ⟨S16x4096x64, .f32⟩
  | 27 => ⟨S_, .f32⟩
  | 28 => ⟨S16x4096, .f32⟩
  | 29 => ⟨S16x4096x1, .f32⟩
  | 30 => ⟨S_, .f32⟩
  | 31 => ⟨S16x4096x1, .f32⟩
  | 32 => ⟨S16x4096x1, .f32⟩
  | 33 => ⟨S_, .i32⟩
  | 34 => ⟨S_, .f32⟩
  | 35 => ⟨S16x4096, .f32⟩
  | 36 => ⟨S16x4096x1, .f32⟩
  | 37 => ⟨S_, .f32⟩
  | 38 => ⟨S16x4096x1, .f32⟩
  | 39 => ⟨S16x4096x1, .f32⟩
  | 40 => ⟨S16x4096x64, .f32⟩
  | 41 => ⟨S16x4096x64, .f32⟩
  | 42 => ⟨S16x4096x64, .f32⟩
  | 43 => ⟨S_, .f32⟩
  | 44 => ⟨S_, .f32⟩
  | 45 => ⟨S_, .f32⟩
  | 46 => ⟨S_, .f32⟩
  | 47 => ⟨S16x4096, .f32⟩
  | 48 => ⟨S16x4096x1, .f32⟩
  | 49 => ⟨S16x4096x1, .f32⟩
  | 50 => ⟨S16x4096x1, .f32⟩
  | 51 => ⟨S_, .f32⟩
  | 52 => ⟨S_, .i1⟩
  | 53 => ⟨S_, .f32⟩
  | 54 => ⟨S_, .f32⟩
  | 55 => ⟨S16x4096x1, .f32⟩
  | 56 => ⟨S16x4096x1, .f32⟩
  | 57 => ⟨S16x4096x64, .f32⟩
  | 58 => ⟨S16x4096x64, .f32⟩
  | 59 => ⟨S_, .f32⟩
  | 60 => ⟨S16x4096x1, .f32⟩
  | 61 => ⟨S16x4096x1, .f32⟩
  | 62 => ⟨S16x4096x1, .f32⟩
  | 63 => ⟨S16x4096x64, .f32⟩
  | 64 => ⟨S16x4096x64, .f32⟩
  | 65 => ⟨S1x1x64, .f32⟩
  | 66 => ⟨S16x4096x64, .f32⟩
  | 67 => ⟨S16x4096x64, .f32⟩
  | 68 => ⟨S1x1x64, .f32⟩
  | 69 => ⟨S16x4096x64, .f32⟩
  | 70 => ⟨S16x4096x64, .f32⟩
  | 71 => ⟨S_, .f32⟩
  | 72 => ⟨S16x4096x64, .f32⟩
  | 73 => ⟨S16x4096x64, .f32⟩
  | 74 => ⟨S16x4096x16, .f32⟩
  | 75 => ⟨S1x1x16, .f32⟩
  | 76 => ⟨S16x4096x16, .f32⟩
  | 77 => ⟨S16x4096x16, .f32⟩
  | 78 => ⟨S_, .f32⟩
  | 79 => ⟨S16x4096, .f32⟩
  | 80 => ⟨S16x4096x1, .f32⟩
  | 81 => ⟨S_, .f32⟩
  | 82 => ⟨S16x4096x1, .f32⟩
  | 83 => ⟨S16x4096x1, .f32⟩
  | 84 => ⟨S_, .i32⟩
  | 85 => ⟨S_, .f32⟩
  | 86 => ⟨S16x4096, .f32⟩
  | 87 => ⟨S16x4096x1, .f32⟩
  | 88 => ⟨S_, .f32⟩
  | 89 => ⟨S16x4096x1, .f32⟩
  | 90 => ⟨S16x4096x1, .f32⟩
  | 91 => ⟨S16x4096x16, .f32⟩
  | 92 => ⟨S16x4096x16, .f32⟩
  | 93 => ⟨S16x4096x16, .f32⟩
  | 94 => ⟨S_, .f32⟩
  | 95 => ⟨S_, .f32⟩
  | 96 => ⟨S_, .f32⟩
  | 97 => ⟨S_, .f32⟩
  | 98 => ⟨S16x4096, .f32⟩
  | 99 => ⟨S16x4096x1, .f32⟩
  | 100 => ⟨S16x4096x1, .f32⟩
  | 101 => ⟨S16x4096x1, .f32⟩
  | 102 => ⟨S_, .f32⟩
  | 103 => ⟨S_, .i1⟩
  | 104 => ⟨S_, .f32⟩
  | 105 => ⟨S_, .f32⟩
  | 106 => ⟨S16x4096x1, .f32⟩
  | 107 => ⟨S16x4096x1, .f32⟩
  | 108 => ⟨S16x4096x16, .f32⟩
  | 109 => ⟨S16x4096x16, .f32⟩
  | 110 => ⟨S_, .f32⟩
  | 111 => ⟨S16x4096x1, .f32⟩
  | 112 => ⟨S16x4096x1, .f32⟩
  | 113 => ⟨S16x4096x1, .f32⟩
  | 114 => ⟨S16x4096x16, .f32⟩
  | 115 => ⟨S16x4096x16, .f32⟩
  | 116 => ⟨S1x1x16, .f32⟩
  | 117 => ⟨S16x4096x16, .f32⟩
  | 118 => ⟨S16x4096x16, .f32⟩
  | 119 => ⟨S1x1x16, .f32⟩
  | 120 => ⟨S16x4096x16, .f32⟩
  | 121 => ⟨S16x4096x16, .f32⟩
  | 122 => ⟨S_, .f32⟩
  | 123 => ⟨S16x4096x16, .f32⟩
  | 124 => ⟨S16x4096x16, .f32⟩
  | 125 => ⟨S16x4096, .f32⟩
  | 126 => ⟨S16x4096x1, .f32⟩
  | 127 => ⟨S16x4096x16, .f32⟩
  | _ => ⟨S16x4096, .f32⟩

abbrev hbmTy0_1 (i : Nat) : BufTy := match i % 128 with
  | 0 => ⟨S16x4096x16, .f32⟩
  | 1 => ⟨S_, .f32⟩
  | 2 => ⟨S16x16, .f32⟩
  | 3 => ⟨S16x4096, .f32⟩
  | 4 => ⟨S_, .f32⟩
  | 5 => ⟨S16, .f32⟩
  | 6 => ⟨S16x1, .f32⟩
  | 7 => ⟨S_, .f32⟩
  | 8 => ⟨S16x1, .f32⟩
  | 9 => ⟨S16x1, .i1⟩
  | 10 => ⟨S_, .f32⟩
  | 11 => ⟨S16x1, .f32⟩
  | 12 => ⟨S16x1, .f32⟩
  | 13 => ⟨S16x16, .f32⟩
  | 14 => ⟨S16x16, .f32⟩
  | 15 => ⟨S_, .f32⟩
  | 16 => ⟨S_, .f32⟩
  | 17 => ⟨S16x16, .i1⟩
  | 18 => ⟨S16x16, .f32⟩
  | 19 => ⟨S16x16, .f32⟩
  | 20 => ⟨S16x128, .f32⟩
  | 21 => ⟨S1x128, .f32⟩
  | 22 => ⟨S16x128, .f32⟩
  | 23 => ⟨S16x128, .f32⟩
  | 24 => ⟨S_, .f32⟩
  | 25 => ⟨S16, .f32⟩
  | 26 => ⟨S16x1, .f32⟩
  | 27 => ⟨S_, .f32⟩
  | 28 => ⟨S16x1, .f32⟩
  | 29 => ⟨S16x1, .f32⟩
  | 30 => ⟨S_, .i32⟩
  | 31 => ⟨S_, .f32⟩
  | 32 => ⟨S16, .f32⟩
  | 33 => ⟨S16x1, .f32⟩
  | 34 => ⟨S_, .f32⟩
  | 35 => ⟨S16x1, .f32⟩
  | 36 => ⟨S16x1, .f32⟩
  | 37 => ⟨S16x128, .f32⟩
  | 38 => ⟨S16x128, .f32⟩
  | 39 => ⟨S16x128, .f32⟩
  | 40 => ⟨S_, .f32⟩
  | 41 => ⟨S_, .f32⟩
  | 42 => ⟨S_, .f32⟩
  | 43 => ⟨S_, .f32⟩
  | 44 => ⟨S16, .f32⟩
  | 45 => ⟨S16x1, .f32⟩
  | 46 => ⟨S16x1, .f32⟩
  | 47 => ⟨S16x1, .f32⟩
  | 48 => ⟨S_, .f32⟩
  | 49 => ⟨S_, .i1⟩
  | 50 => ⟨S_, .f32⟩
  | 51 => ⟨S_, .f32⟩
  | 52 => ⟨S16x1, .f32⟩
  | 53 => ⟨S16x1, .f32⟩
  | 54 => ⟨S16x128, .f32⟩
  | 55 => ⟨S16x128, .f32⟩
  | 56 => ⟨S_, .f32⟩
  | 57 => ⟨S16x1, .f32⟩
  | 58 => ⟨S16x1, .f32⟩
  | 59 => ⟨S16x1, .f32⟩
  | 60 => ⟨S16x128, .f32⟩
  | 61 => ⟨S16x128, .f32⟩
  | 62 => ⟨S1x128, .f32⟩
  | 63 => ⟨S16x128, .f32⟩
  | 64 => ⟨S16x128, .f32⟩
  | 65 => ⟨S1x128, .f32⟩
  | 66 => ⟨S16x128, .f32⟩
  | 67 => ⟨S16x128, .f32⟩
  | 68 => ⟨S_, .f32⟩
  | 69 => ⟨S16x128, .f32⟩
  | 70 => ⟨S16x128, .f32⟩
  | 71 => ⟨S16x64, .f32⟩
  | 72 => ⟨S1x64, .f32⟩
  | 73 => ⟨S16x64, .f32⟩
  | 74 => ⟨S16x64, .f32⟩
  | 75 => ⟨S_, .f32⟩
  | 76 => ⟨S16, .f32⟩
  | 77 => ⟨S16x1, .f32⟩
  | 78 => ⟨S_, .f32⟩
  | 79 => ⟨S16x1, .f32⟩
  | 80 => ⟨S16x1, .f32⟩
  | 81 => ⟨S_, .i32⟩
  | 82 => ⟨S_, .f32⟩
  | 83 => ⟨S16, .f32⟩
  | 84 => ⟨S16x1, .f32⟩
  | 85 => ⟨S_, .f32⟩
  | 86 => ⟨S16x1, .f32⟩
  | 87 => ⟨S16x1, .f32⟩
  | 88 => ⟨S16x64, .f32⟩
  | 89 => ⟨S16x64, .f32⟩
  | 90 => ⟨S16x64, .f32⟩
  | 91 => ⟨S_, .f32⟩
  | 92 => ⟨S_, .f32⟩
  | 93 => ⟨S_, .f32⟩
  | 94 => ⟨S_, .f32⟩
  | 95 => ⟨S16, .f32⟩
  | 96 => ⟨S16x1, .f32⟩
  | 97 => ⟨S16x1, .f32⟩
  | 98 => ⟨S16x1, .f32⟩
  | 99 => ⟨S_, .f32⟩
  | 100 => ⟨S_, .i1⟩
  | 101 => ⟨S_, .f32⟩
  | 102 => ⟨S_, .f32⟩
  | 103 => ⟨S16x1, .f32⟩
  | 104 => ⟨S16x1, .f32⟩
  | 105 => ⟨S16x64, .f32⟩
  | 106 => ⟨S16x64, .f32⟩
  | 107 => ⟨S_, .f32⟩
  | 108 => ⟨S16x1, .f32⟩
  | 109 => ⟨S16x1, .f32⟩
  | 110 => ⟨S16x1, .f32⟩
  | 111 => ⟨S16x64, .f32⟩
  | 112 => ⟨S16x64, .f32⟩
  | 113 => ⟨S1x64, .f32⟩
  | 114 => ⟨S16x64, .f32⟩
  | 115 => ⟨S16x64, .f32⟩
  | 116 => ⟨S1x64, .f32⟩
  | 117 => ⟨S16x64, .f32⟩
  | 118 => ⟨S16x64, .f32⟩
  | 119 => ⟨S_, .f32⟩
  | 120 => ⟨S16x64, .f32⟩
  | 121 => ⟨S16x64, .f32⟩
  | 122 => ⟨S16x32, .f32⟩
  | 123 => ⟨S16x32, .f32⟩
  | _ => ⟨S16x4096, .f32⟩

abbrev hbmTy (i : Nat) : BufTy := match i / 128 with
  | 0 => hbmTy0_0 i
  | 1 => hbmTy0_1 i
  | _ => ⟨S16x4096, .f32⟩

abbrev bufTy : (tb : Table) → Fin (tcTables nBuf tb) → BufTy
  | .hbm, ⟨i, _⟩ => hbmTy i
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_1 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_call1_cst : Ref sig .tc := ⟨.hbm, 71, rfl⟩
abbrev main_call1_v0 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_2 : Ref sig .tc := ⟨.hbm, 78, rfl⟩
abbrev main_v31 : Ref sig .tc := ⟨.hbm, 79, rfl⟩
abbrev main_v32 : Ref sig .tc := ⟨.hbm, 80, rfl⟩
abbrev main_cst_3 : Ref sig .tc := ⟨.hbm, 81, rfl⟩
abbrev main_v33 : Ref sig .tc := ⟨.hbm, 82, rfl⟩
abbrev main_v34 : Ref sig .tc := ⟨.hbm, 83, rfl⟩
abbrev main_c_4 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_cst_3 : Ref sig .tc := ⟨.hbm, 102, rfl⟩
abbrev main_call2_v13 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_cst_5 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_call3_cst : Ref sig .tc := ⟨.hbm, 122, rfl⟩
abbrev main_call3_v0 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_cst_6 : Ref sig .tc := ⟨.hbm, 129, rfl⟩
abbrev main_v54 : Ref sig .tc := ⟨.hbm, 130, rfl⟩
abbrev main_v55 : Ref sig .tc := ⟨.hbm, 131, rfl⟩
abbrev main_cst_7 : Ref sig .tc := ⟨.hbm, 132, rfl⟩
abbrev main_v56 : Ref sig .tc := ⟨.hbm, 133, rfl⟩
abbrev main_v57 : Ref sig .tc := ⟨.hbm, 134, rfl⟩
abbrev main_cst_8 : Ref sig .tc := ⟨.hbm, 135, rfl⟩
abbrev main_v58 : Ref sig .tc := ⟨.hbm, 136, rfl⟩
abbrev main_v59 : Ref sig .tc := ⟨.hbm, 137, rfl⟩
abbrev main_cst_9 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_cst_10 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_cst_11 : Ref sig .tc := ⟨.hbm, 152, rfl⟩
abbrev main_v69 : Ref sig .tc := ⟨.hbm, 153, rfl⟩
abbrev main_v70 : Ref sig .tc := ⟨.hbm, 154, rfl⟩
abbrev main_cst_12 : Ref sig .tc := ⟨.hbm, 155, rfl⟩
abbrev main_v71 : Ref sig .tc := ⟨.hbm, 156, rfl⟩
abbrev main_v72 : Ref sig .tc := ⟨.hbm, 157, rfl⟩
abbrev main_c_13 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_cst_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_cst_1 : Ref sig .tc := ⟨.hbm, 169, rfl⟩
abbrev main_call5_v8 : Ref sig .tc := ⟨.hbm, 170, rfl⟩
abbrev main_call5_cst_2 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_v12 : Ref sig .tc := ⟨.hbm, 175, rfl⟩
abbrev main_call5_cst_3 : Ref sig .tc := ⟨.hbm, 176, rfl⟩
abbrev main_call5_v13 : Ref sig .tc := ⟨.hbm, 177, rfl⟩
abbrev main_call5_cst_4 : Ref sig .tc := ⟨.hbm, 178, rfl⟩
abbrev main_call5_call0_v0 : Ref sig .tc := ⟨.hbm, 179, rfl⟩
abbrev main_call5_call0_v1 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_cst_14 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_call6_cst : Ref sig .tc := ⟨.hbm, 196, rfl⟩
abbrev main_call6_v0 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_cst_15 : Ref sig .tc := ⟨.hbm, 203, rfl⟩
abbrev main_v92 : Ref sig .tc := ⟨.hbm, 204, rfl⟩
abbrev main_v93 : Ref sig .tc := ⟨.hbm, 205, rfl⟩
abbrev main_cst_16 : Ref sig .tc := ⟨.hbm, 206, rfl⟩
abbrev main_v94 : Ref sig .tc := ⟨.hbm, 207, rfl⟩
abbrev main_v95 : Ref sig .tc := ⟨.hbm, 208, rfl⟩
abbrev main_c_17 : Ref sig .tc := ⟨.hbm, 209, rfl⟩
abbrev main_call7_cst : Ref sig .tc := ⟨.hbm, 210, rfl⟩
abbrev main_call7_v0 : Ref sig .tc := ⟨.hbm, 211, rfl⟩
abbrev main_call7_v1 : Ref sig .tc := ⟨.hbm, 212, rfl⟩
abbrev main_call7_cst_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_v6 : Ref sig .tc := ⟨.hbm, 218, rfl⟩
abbrev main_call7_v7 : Ref sig .tc := ⟨.hbm, 219, rfl⟩
abbrev main_call7_cst_1 : Ref sig .tc := ⟨.hbm, 220, rfl⟩
abbrev main_call7_v8 : Ref sig .tc := ⟨.hbm, 221, rfl⟩
abbrev main_call7_cst_2 : Ref sig .tc := ⟨.hbm, 222, rfl⟩
abbrev main_call7_v9 : Ref sig .tc := ⟨.hbm, 223, rfl⟩
abbrev main_call7_v10 : Ref sig .tc := ⟨.hbm, 224, rfl⟩
abbrev main_call7_v11 : Ref sig .tc := ⟨.hbm, 225, rfl⟩
abbrev main_call7_v12 : Ref sig .tc := ⟨.hbm, 226, rfl⟩
abbrev main_call7_cst_3 : Ref sig .tc := ⟨.hbm, 227, rfl⟩
abbrev main_call7_v13 : Ref sig .tc := ⟨.hbm, 228, rfl⟩
abbrev main_call7_cst_4 : Ref sig .tc := ⟨.hbm, 229, rfl⟩
abbrev main_call7_call0_v0 : Ref sig .tc := ⟨.hbm, 230, rfl⟩
abbrev main_call7_call0_v1 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_cst_18 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_v108 : Ref sig .tc := ⟨.hbm, 245, rfl⟩
abbrev main_v109 : Ref sig .tc := ⟨.hbm, 246, rfl⟩
abbrev main_call8_cst : Ref sig .tc := ⟨.hbm, 247, rfl⟩
abbrev main_call8_v0 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩

abbrev nD : Nat := 1
abbrev τ : Topo := Topo.v7x

variable {F : FTy → Type} [FloatOps F]
-- ==== Proof.Net.lean ====
/-
  The network over the real numbers, and the facts about it that the proof rests on.

  A layer takes a linear map's result `f` (one entry per feature), normalises it to mean 0 and variance 1 over its
  features, and cuts the negative part off: `act f`. The facts: the variance is the mean square less the squared mean
  (`var_eq`); normalising commutes with scaling by a positive number up to the stabiliser `eps` (`act_scale`).
-/
module

public import Mathlib.Analysis.SpecialFunctions.Pow.Real
public import Mathlib.Algebra.BigOperators.Fin
public import Mathlib.Algebra.BigOperators.Field

@[expose] public section

noncomputable section

open scoped BigOperators

namespace Cert.Net

/-- The stabiliser added to a variance before its square root: the single-precision number nearest to 1e-5. -/
def eps : ℝ := 10995116 / 1099511627776

/-- The added constant is positive. -/
theorem eps_pos : 0 < eps := by unfold eps; norm_num

section Norm

variable {n : ℕ}

/-- The mean of `n` numbers. -/
def mean (f : Fin n → ℝ) : ℝ := (∑ i, f i) / n

/-- The variance of `n` numbers: the mean of the squared distances from the mean. -/
def var (f : Fin n → ℝ) : ℝ := (∑ i, (f i - mean f) * (f i - mean f)) / n

/-- The normalised numbers, negative ones replaced by 0. -/
def act (f : Fin n → ℝ) (i : Fin n) : ℝ := max ((f i - mean f) / √(var f + eps)) 0

/-- A variance is not negative. -/
theorem var_nonneg (f : Fin n → ℝ) : 0 ≤ var f :=
  div_nonneg (Finset.sum_nonneg fun _ _ => mul_self_nonneg _) (Nat.cast_nonneg n)

/-- A variance plus the constant is positive. -/
theorem var_eps_pos (f : Fin n → ℝ) : 0 < var f + eps := add_pos_of_nonneg_of_pos (var_nonneg f) eps_pos

/-- A sum of squared differences from a number, multiplied out. -/
theorem sum_sub_mean_mul_self (f : Fin n → ℝ) (c : ℝ) :
    ∑ i, (f i - c) * (f i - c) = ∑ i, f i * f i - 2 * c * ∑ i, f i + n * (c * c) := by
  rw [Finset.mul_sum, ← Finset.sum_sub_distrib]
  have : (n : ℝ) * (c * c) = ∑ _i : Fin n, c * c := by simp
  rw [this, ← Finset.sum_add_distrib]
  exact Finset.sum_congr rfl fun i _ => by ring

/-- The variance is the mean square less the squared mean. -/
theorem var_eq (f : Fin n → ℝ) : var f = (∑ i, f i * f i) / n - mean f * mean f := by
  rcases Nat.eq_zero_or_pos n with h | h
  · subst h; simp [var, mean]
  · have hn : (n : ℝ) ≠ 0 := by positivity
    unfold var
    rw [sum_sub_mean_mul_self]
    unfold mean
    field_simp
    ring

/-- `act` with the reciprocal square root in front of the cut: a positive factor passes the cut. -/
theorem act_eq (f : Fin n → ℝ) (i : Fin n) : act f i = (√(var f + eps))⁻¹ * max (f i - mean f) 0 := by
  have h : 0 ≤ (√(var f + eps))⁻¹ := inv_nonneg.mpr (Real.sqrt_nonneg _)
  rw [act, mul_max_of_nonneg _ _ h, mul_zero, div_eq_inv_mul]

/-- A layer is not negative. -/
theorem act_nonneg (f : Fin n → ℝ) (i : Fin n) : 0 ≤ act f i := le_max_right _ _

/-- A factor comes out of a mean. -/
theorem mean_scale (r : ℝ) (f : Fin n → ℝ) : mean (fun i => r * f i) = r * mean f := by
  simp only [mean, ← Finset.mul_sum, mul_div_assoc]

/-- A factor comes out of a variance squared. -/
theorem var_scale (r : ℝ) (f : Fin n → ℝ) : var (fun i => r * f i) = r * r * var f := by
  simp only [var, mean_scale]
  rw [← mul_div_assoc, Finset.mul_sum]
  congr 1
  exact Finset.sum_congr rfl fun i _ => by ring

/-- Normalising `r · f` for `r ≥ 0`: the variance of `f` is scaled by `r²`, and `r` comes out of the cut. -/
theorem act_scale {r : ℝ} (hr : 0 ≤ r) (f : Fin n → ℝ) (i : Fin n) :
    act (fun i => r * f i) i = max (f i - mean f) 0 * (r * (√(var f * (r * r) + eps))⁻¹) := by
  rw [act_eq, mean_scale, var_scale, ← mul_sub, ← mul_zero r, ← mul_max_of_nonneg _ _ hr, mul_zero, mul_comm (r * r)]
  ring

end Norm

/-! ## The network: per row `b` of the batch, a two-layer perceptron over (value, embedding) of every feature `j`,
   the masked mean over the features, and a two-layer perceptron of the mean -/

variable (X : Fin 16 → Fin 4096 → ℝ) (M : Fin 16 → Fin 4096 → ℝ) (E : Fin 4096 → Fin 16 → ℝ)
  (W1 : Fin 17 → Fin 64 → ℝ) (W2 : Fin 64 → Fin 16 → ℝ) (U1 : Fin 16 → Fin 128 → ℝ) (U2 : Fin 128 → Fin 64 → ℝ)

/-- The embedding's share of the first linear map. -/
def emb (j : Fin 4096) (k : Fin 64) : ℝ := ∑ d : Fin 16, E j d * W1 d.succ k

/-- Row `1 + d` of the first weight, the embedding's rows being all after the first. -/
theorem after_first (d : Fin 16) (h : 1 + (d : ℕ) < 17) : (⟨1 + (d : ℕ), h⟩ : Fin 17) = d.succ :=
  Fin.ext (Nat.add_comm 1 d)

/-- First linear map: the value times its weight row plus the embedding's share. -/
def lin1 (b : Fin 16) (j : Fin 4096) (k : Fin 64) : ℝ := X b j * W1 0 k + emb E W1 j k

/-- Second linear map, of the first layer's output. -/
def lin2 (b : Fin 16) (j : Fin 4096) (d : Fin 16) : ℝ := ∑ k : Fin 64, act (lin1 X E W1 b j) k * W2 k d

/-- The masked sum over the features. -/
def total (b : Fin 16) (d : Fin 16) : ℝ := ∑ j : Fin 4096, act (lin2 X E W1 W2 b j) d * M b j

/-- The number of features that the mask keeps. -/
def count (b : Fin 16) : ℝ := ∑ j : Fin 4096, M b j

/-- The masked mean, 0 where the count is not positive. -/
def pooled (b : Fin 16) (d : Fin 16) : ℝ :=
  if 0 < count M b then total X M E W1 W2 b d / max (count M b) 1 else 0

/-- Third linear map, of the masked mean. -/
def lin3 (b : Fin 16) (h : Fin 128) : ℝ := ∑ d : Fin 16, pooled X M E W1 W2 b d * U1 d h

/-- Fourth linear map, of the third layer's output. -/
def lin4 (b : Fin 16) (z : Fin 64) : ℝ := ∑ h : Fin 128, act (lin3 X M E W1 W2 U1 b) h * U2 h z

/-- The network's output: both results side by side. -/
def out (b : Fin 16) (z : Fin 64) : ℝ := act (lin4 X M E W1 W2 U1 U2 b) z

/-! ## The regrouping: the first layer's scale is taken past the second linear map -/

/-- The reciprocal root of the first layer. -/
def scale (b : Fin 16) (j : Fin 4096) : ℝ := (√(var (lin1 X E W1 b j) + eps))⁻¹

/-- The first layer without its scale. -/
def unscaled (b : Fin 16) (j : Fin 4096) (k : Fin 64) : ℝ := max (lin1 X E W1 b j k - mean (lin1 X E W1 b j)) 0

/-- The second linear map of the first layer without its scale. -/
def proj (b : Fin 16) (j : Fin 4096) (d : Fin 16) : ℝ := ∑ k : Fin 64, W2 k d * unscaled X E W1 b j k

/-- The first layer's factor is not negative. -/
theorem scale_nonneg (b : Fin 16) (j : Fin 4096) : 0 ≤ scale X E W1 b j := inv_nonneg.mpr (Real.sqrt_nonneg _)

/-- The first mean, split into the value's share and the embedding's. -/
theorem mean_lin1 (b : Fin 16) (j : Fin 4096) :
    mean (lin1 X E W1 b j) = X b j * mean (W1 0) + mean (emb E W1 j) := by
  simp only [mean, lin1, Finset.sum_add_distrib, ← Finset.mul_sum]
  ring

/-- The first linear map less its mean, split likewise. -/
theorem dev_lin1 (b : Fin 16) (j : Fin 4096) (k : Fin 64) :
    (W1 0 k - mean (W1 0)) * X b j + (emb E W1 j k - mean (emb E W1 j)) = lin1 X E W1 b j k - mean (lin1 X E W1 b j) := by
  rw [mean_lin1, lin1]
  ring

/-- The first variance, its mean square expanded into the value's square, the cross term and the embedding's square. -/
theorem var_lin1 (b : Fin 16) (j : Fin 4096) :
    X b j * X b j * ((∑ k, W1 0 k * W1 0 k) / 64) + 2 * (X b j * ∑ k, W1 0 k * (1 / 64) * emb E W1 j k)
        + ∑ k, 1 / 64 * (emb E W1 j k * emb E W1 j k)
        - (X b j * mean (W1 0) + mean (emb E W1 j)) * (X b j * mean (W1 0) + mean (emb E W1 j))
      = var (lin1 X E W1 b j) := by
  rw [var_eq, mean_lin1]
  congr 1
  have e1 : ∑ k, W1 0 k * (1 / 64) * emb E W1 j k = (∑ k, W1 0 k * emb E W1 j k) / 64 := by
    rw [Finset.sum_div]; exact Finset.sum_congr rfl fun k _ => by ring
  have e2 : ∑ k, 1 / 64 * (emb E W1 j k * emb E W1 j k) = (∑ k, emb E W1 j k * emb E W1 j k) / 64 := by
    rw [Finset.sum_div]; exact Finset.sum_congr rfl fun k _ => by ring
  have e3 : ∑ k, lin1 X E W1 b j k * lin1 X E W1 b j k
      = X b j * X b j * (∑ k, W1 0 k * W1 0 k) + 2 * (X b j * ∑ k, W1 0 k * emb E W1 j k)
        + ∑ k, emb E W1 j k * emb E W1 j k := by
    simp only [Finset.mul_sum, ← Finset.sum_add_distrib]
    exact Finset.sum_congr rfl fun k _ => by unfold lin1; ring
  rw [e1, e2, e3]
  push_cast
  ring

/-- The second linear map is the projection times the first layer's scale. -/
theorem lin2_eq (b : Fin 16) (j : Fin 4096) :
    lin2 X E W1 W2 b j = fun d => scale X E W1 b j * proj X E W1 W2 b j d := by
  funext d
  simp only [lin2, proj, Finset.mul_sum]
  exact Finset.sum_congr rfl fun k _ => by rw [act_eq, scale, unscaled]; ring

/-- The mean of the projection, through the mean of the second weight's columns. -/
theorem mean_proj (b : Fin 16) (j : Fin 4096) :
    ∑ k, (∑ d, 1 / 16 * W2 k d) * unscaled X E W1 b j k = mean (proj X E W1 W2 b j) := by
  simp only [mean, proj, Finset.sum_mul, Finset.sum_div]
  rw [Finset.sum_comm]
  refine Finset.sum_congr rfl fun d _ => Finset.sum_congr rfl fun k _ => ?_
  push_cast
  ring

/-- The variance of sixteen numbers, the squares averaged with the weight 1/16. -/
theorem var_sixteen (f : Fin 16 → ℝ) : ∑ d, 1 / 16 * (f d * f d) - mean f * mean f = var f := by
  rw [var_eq, ← Finset.mul_sum]
  push_cast
  ring

/-- The second layer from the projection: both scales come out as one factor. -/
theorem act_lin2 (b : Fin 16) (j : Fin 4096) (d : Fin 16) :
    act (lin2 X E W1 W2 b j) d
      = max (proj X E W1 W2 b j d - mean (proj X E W1 W2 b j)) 0
        * (scale X E W1 b j * (√(var (proj X E W1 W2 b j) * (scale X E W1 b j * scale X E W1 b j) + eps))⁻¹) := by
  rw [lin2_eq]
  exact act_scale (scale_nonneg X E W1 b j) _ d

end Cert.Net

end
-- ==== Proof.Norm.lean ====
/-
  One normalised layer on the extended reals, at entries that are real numbers: the reference's spelling (subtract the
  mean, divide by the root of the mean squared distance plus eps, cut) and the kernel's (mean square less squared
  mean, reciprocal root, cut) both give the coercion of `Net.act`.

  First the coercion rules, all in the direction that moves the coercion outwards, and the printed numerals.
-/
module

public import proofs.«01_k».proof.Proof.Net
public import Idealize.ShloMosaic.Lib.Pointwise
public import Idealize.ShloMosaic.Lib.IdealHost

@[expose] public section

noncomputable section

open Idealize.ShloMosaic
open scoped BigOperators

namespace Cert.Norm

/-! ## Coercions from the reals, moved outwards -/

/-- A finite sum of real numbers, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals. -/
theorem max_coe (x y : ℝ) : max (x : EReal) (y : EReal) = ((max x y : ℝ) : EReal) :=
  (EReal.coe_strictMono.monotone.map_max).symm

/-- A quotient of real numbers by a nonzero one, taken in the extended reals. -/
theorem div_coe_coe {x y : ℝ} (h : y ≠ 0) : Ideal.div (x : EReal) (y : EReal) = ((x / y : ℝ) : EReal) := by
  rw [Ideal.div_coe h, ← EReal.coe_mul, mul_one_div]

/-- The square root of a positive real number. -/
theorem sqrt_pos_coe {x : ℝ} (h : 0 < x) : Ideal.sqrt (x : EReal) = ((√x : ℝ) : EReal) := by
  rw [Ideal.sqrt_coe, if_neg (not_lt.mpr h.le)]

/-- The reciprocal square root of a positive real number. -/
theorem rsqrt_pos_coe {x : ℝ} (h : 0 < x) : Ideal.rsqrt (x : EReal) = (((√x)⁻¹ : ℝ) : EReal) := by
  rw [Ideal.rsqrt_coe, if_neg (not_lt.mpr h.le), if_neg h.ne']

/-- A word read as a signed integer is a real number. -/
theorem sitofp_coe (w : BitVec 32) : FloatOps.sitofp (F := Ideal) .f32 w = ((w.toInt : ℝ) : EReal) := rfl

/-! ## The printed numerals -/

/-- The pattern of 64. -/
theorem lit_64 : Ideal.ofBits .f32 0x42800000#32 = ((64 : ℝ) : EReal) := by
  simp [Ideal.ofBits, Ideal.ieee, -EReal.coe_mul]; norm_num

/-- The pattern of 16. -/
theorem lit_16 : Ideal.ofBits .f32 0x41800000#32 = ((16 : ℝ) : EReal) := by
  simp [Ideal.ofBits, Ideal.ieee, -EReal.coe_mul]; norm_num

/-- The pattern of 128. -/
theorem lit_128 : Ideal.ofBits .f32 0x43000000#32 = ((128 : ℝ) : EReal) := by
  simp [Ideal.ofBits, Ideal.ieee, -EReal.coe_mul]; norm_num

/-- The pattern of 2. -/
theorem lit_2 : Ideal.ofBits .f32 0x40000000#32 = ((2 : ℝ) : EReal) := by
  simp [Ideal.ofBits, Ideal.ieee, -EReal.coe_mul]; norm_num

/-- The pattern of 1/64. -/
theorem lit_64th : Ideal.ofBits .f32 0x3C800000#32 = ((1 / 64 : ℝ) : EReal) := by
  simp [Ideal.ofBits, Ideal.ieee, -EReal.coe_mul]; norm_num

/-- The pattern of 1/16. -/
theorem lit_16th : Ideal.ofBits .f32 0x3D800000#32 = ((1 / 16 : ℝ) : EReal) := by
  simp [Ideal.ofBits, Ideal.ieee, -EReal.coe_mul]; norm_num

/-- The pattern of the constant under the roots. -/
theorem lit_eps : Ideal.ofBits .f32 0x3727C5AC#32 = ((Net.eps : ℝ) : EReal) := by
  simp [Ideal.ofBits, Ideal.ieee, -EReal.coe_mul, Net.eps]; norm_num

/-- The pattern of infinity is the top of the extended reals. -/
theorem lit_inf : Ideal.ofBits .f32 0x7F800000#32 = ⊤ := by
  simp [Ideal.ofBits, Ideal.ieee]

theorem ne_64 : (64 : ℝ) ≠ 0 := by norm_num
theorem ne_16 : (16 : ℝ) ≠ 0 := by norm_num
theorem ne_128 : (128 : ℝ) ≠ 0 := by norm_num
theorem pos_64 : (0 : EReal) < ((64 : ℝ) : EReal) := EReal.coe_pos.mpr (by norm_num)
theorem pos_16 : (0 : EReal) < ((16 : ℝ) : EReal) := EReal.coe_pos.mpr (by norm_num)
theorem pos_128 : (0 : EReal) < ((128 : ℝ) : EReal) := EReal.coe_pos.mpr (by norm_num)
theorem nat_64 : ((64 : ℕ) : ℝ) = 64 := by norm_num
theorem nat_16 : ((16 : ℕ) : ℝ) = 16 := by norm_num
theorem nat_128 : ((128 : ℕ) : ℝ) = 128 := by norm_num

/-- The masked mean's choice between a quotient and 0, read in the reals: the divisor is at least 1. -/
theorem pooled_coe (c t : ℝ) :
    (if (0 : EReal) < (c : EReal) then Ideal.div (t : EReal) (max (c : EReal) 1) else 0)
      = ((if 0 < c then t / max c 1 else 0 : ℝ) : EReal) := by
  have h : max c 1 ≠ 0 := (lt_of_lt_of_le one_pos (le_max_right c 1)).ne'
  simp only [EReal.coe_pos, ← EReal.coe_one, max_coe, div_coe_coe h]
  split <;> rfl

/-! ## One layer -/

variable {n : ℕ}

/-- A layer as the reference writes it, over a width `N`, the gain 1 and the offset 0 already dropped and the sums
    read in the reals. -/
theorem ref_layer {N : ℝ} (hN : (n : ℝ) = N) (f : Fin n → ℝ) (i : Fin n) :
    max (Ideal.div ((f i - (∑ x, f x) / N : ℝ) : EReal)
        (Ideal.sqrt (((∑ x, (f x - Net.mean f) * (f x - Net.mean f)) / N : ℝ) + (Net.eps : ℝ)))) 0
      = ((Net.act f i : ℝ) : EReal) := by
  subst hN
  have h := Net.var_eps_pos f
  have e : (∑ x, (f x - Net.mean f) * (f x - Net.mean f)) / (n : ℝ) = Net.var f := rfl
  rw [e, ← EReal.coe_add, sqrt_pos_coe h, div_coe_coe (Real.sqrt_pos.mpr h).ne', ← EReal.coe_zero, max_coe]
  rfl

/-- A layer as the kernel writes it, over a width `N`: the variance as mean square less squared mean, cut at 0, and a
    product with the reciprocal root in place of the quotient. -/
theorem kernel_layer {N : ℝ} (hN : (n : ℝ) = N) (h0 : N ≠ 0) (f : Fin n → ℝ) (i : Fin n) :
    Ideal.rsqrt (max (Ideal.div (∑ x, (f x : EReal) * (f x : EReal)) (N : EReal)
          - Ideal.div (∑ x, (f x : EReal)) (N : EReal) * Ideal.div (∑ x, (f x : EReal)) (N : EReal)) 0 + (Net.eps : ℝ))
        * max ((f i : EReal) - Ideal.div (∑ x, (f x : EReal)) (N : EReal)) 0
      = ((Net.act f i : ℝ) : EReal) := by
  simp only [← EReal.coe_zero, ← EReal.coe_mul, sum_coe, div_coe_coe h0, ← EReal.coe_sub, max_coe, ← EReal.coe_add]
  subst hN
  have e := Net.var_eq f
  unfold Net.mean at e
  rw [← e, max_eq_left (Net.var_nonneg f), rsqrt_pos_coe (Net.var_eps_pos f), ← EReal.coe_mul, Net.act_eq]
  rfl

end Cert.Norm

end
-- ==== Proof.Inputs.lean ====
/-
  What the precondition says of the arguments: the float arrays the kernel reads hold real numbers, the biases and the
  offsets are 0, the gains are 1. One test is read back once for each of its two kinds (`real_of_all`, `const_of_all`);
  the predicate is their conjunction.
-/
module

public import proofs.«01_k».proof.Pre_layer_norms_at_init
public import proofs.«01_k».proof.Proof.Norm
public import Idealize.ShloMosaic.Lib.ReduceAll

@[expose] public section

noncomputable section

open Idealize.ShloMosaic Cert.Pre_layer_norms_at_init Cert.Norm

namespace Cert.Inputs

/-- An array whose every entry is a real number. -/
def Real {s : Shape} (v : FVec Ideal s .f32) : Prop := ∀ i, v i = (((v i).toReal : ℝ) : EReal)

instance : Subsingleton S_.Idx := ⟨fun a b => funext fun k => k.elim0⟩

/-- Where the smaller of `v` and `-v` is tested below infinity at every entry, all entries are real numbers. -/
theorem real_of_all {s : Shape} {axes : List (Fin s.rank)} (v : FVec Ideal s .f32) (d : Fin S_.rank → Fin s.rank)
    (hb : S_.BroadcastsInDim s d) (hr : s.ReducesTo axes S_) (hn : 0 < S_.numel) (init : IVec S_ 1) (j : S_.Idx)
    (h : Host.reduce IntOp.andi (cmpf .olt (Host.absf v) (broadcastInDim s d hb (constant S_ .f32 0x7F800000#32)))
      init hr hn j = 1#1) : Real v := by
  intro i
  have e := Host.reduce_andi_all _ _ _ _ _ h i
  have e' : Ideal.cmp .olt (max (v i) (-(v i))) (Ideal.ofBits .f32 0x7F800000#32) = 1#1 := e
  have lt := (Ideal.cmp_olt_eq_one _ _).1 e'
  rw [lit_inf] at lt
  have h1 : v i ≠ ⊤ := fun h => by rw [h] at lt; simp at lt
  have h2 : v i ≠ ⊥ := fun h => by rw [h] at lt; simp at lt
  exact (EReal.coe_toReal h1 h2).symm

/-- Where an array is tested equal to a number at every entry, its entries are that number. -/
theorem const_of_all {s : Shape} {axes : List (Fin s.rank)} (v : FVec Ideal s .f32) (w : BitVec 32)
    (d : Fin S_.rank → Fin s.rank) (hb : S_.BroadcastsInDim s d) (hr : s.ReducesTo axes S_) (hn : 0 < S_.numel)
    (init : IVec S_ 1) (j : S_.Idx)
    (h : Host.reduce IntOp.andi (cmpf .oeq v (broadcastInDim s d hb (constant S_ .f32 w))) init hr hn j = 1#1)
    (i : s.Idx) : v i = Ideal.ofBits .f32 w :=
  (Ideal.cmp_oeq_eq_one _ _).1 (Host.reduce_andi_all _ _ _ _ _ h i)

/-- The argument arrays are as the precondition asks. -/
structure Good (x : FVec Ideal S16x4096 .f32) (e : FVec Ideal S4096x16 .f32) (w1 : FVec Ideal S17x64 .f32)
    (b1 g1 o1 : FVec Ideal S64 .f32) (w2 : FVec Ideal S64x16 .f32) (b2 g2 o2 : FVec Ideal S16 .f32)
    (u1 : FVec Ideal S16x128 .f32) (b3 g3 o3 : FVec Ideal S128 .f32) (u2 : FVec Ideal S128x64 .f32)
    (b4 g4 o4 : FVec Ideal S64 .f32) : Prop where
  x : Real x
  e : Real e
  w1 : Real w1
  w2 : Real w2
  u1 : Real u1
  u2 : Real u2
  b1 : ∀ i, b1 i = 0
  o1 : ∀ i, o1 i = 0
  b2 : ∀ i, b2 i = 0
  o2 : ∀ i, o2 i = 0
  b3 : ∀ i, b3 i = 0
  o3 : ∀ i, o3 i = 0
  b4 : ∀ i, b4 i = 0
  o4 : ∀ i, o4 i = 0
  g1 : ∀ i, g1 i = 1
  g2 : ∀ i, g2 i = 1
  g3 : ∀ i, g3 i = 1
  g4 : ∀ i, g4 i = 1

/-- The zero pattern is 0. -/
theorem lit_zero : Ideal.ofBits .f32 0x00000000#32 = (0 : EReal) := by
  simp [Ideal.ofBits, Ideal.ieee]

/-- The pattern of 1 is 1. -/
theorem lit_one : Ideal.ofBits .f32 0x3F800000#32 = (1 : EReal) := by
  rw [← EReal.coe_one]
  simp [Ideal.ofBits, Ideal.ieee, -EReal.coe_mul, -EReal.coe_one]; norm_num

variable [Facts] (x : FVec Ideal S16x4096 .f32) (k : IVec S16x4096 32) (e : FVec Ideal S4096x16 .f32)
  (w1 : FVec Ideal S17x64 .f32)
  (b1 g1 o1 : FVec Ideal S64 .f32) (w2 : FVec Ideal S64x16 .f32) (b2 g2 o2 : FVec Ideal S16 .f32)
  (u1 : FVec Ideal S16x128 .f32) (b3 g3 o3 : FVec Ideal S128 .f32) (u2 : FVec Ideal S128x64 .f32)
  (b4 g4 o4 : FVec Ideal S64 .f32)

/-- The precondition, read back. -/
theorem good_of_pre
    (h : fn (F := Ideal) x k e w1 b1 g1 o1 w2 b2 g2 o2 u1 b3 g3 o3 u2 b4 g4 o4 = fun _ => 1#1) :
    Good x e w1 b1 g1 o1 w2 b2 g2 o2 u1 b3 g3 o3 u2 b4 g4 o4 := by
  have j : S_.Idx := fun a => a.elim0
  have h := congrFun h j
  unfold fn fn_part1 fn_part2 fn_part3 fn_part4 at h
  obtain ⟨h, h17⟩ := IntOp.andi_eq_one.1 h
  obtain ⟨h, h8⟩ := IntOp.andi_eq_one.1 h
  obtain ⟨h, hu2⟩ := IntOp.andi_eq_one.1 h
  obtain ⟨h, hu1⟩ := IntOp.andi_eq_one.1 h
  obtain ⟨h, hw2⟩ := IntOp.andi_eq_one.1 h
  obtain ⟨h, hw1⟩ := IntOp.andi_eq_one.1 h
  obtain ⟨hx, he⟩ := IntOp.andi_eq_one.1 h
  obtain ⟨h, ho4⟩ := IntOp.andi_eq_one.1 h8
  obtain ⟨h, hb4⟩ := IntOp.andi_eq_one.1 h
  obtain ⟨h, ho3⟩ := IntOp.andi_eq_one.1 h
  obtain ⟨h, hb3⟩ := IntOp.andi_eq_one.1 h
  obtain ⟨h, ho2⟩ := IntOp.andi_eq_one.1 h
  obtain ⟨h, hb2⟩ := IntOp.andi_eq_one.1 h
  obtain ⟨hb1, ho1⟩ := IntOp.andi_eq_one.1 h
  obtain ⟨h, hg4⟩ := IntOp.andi_eq_one.1 h17
  obtain ⟨h, hg3⟩ := IntOp.andi_eq_one.1 h
  obtain ⟨hg1, hg2⟩ := IntOp.andi_eq_one.1 h
  refine ⟨real_of_all x _ _ _ _ _ j hx, real_of_all e _ _ _ _ _ j he, real_of_all w1 _ _ _ _ _ j hw1,
    real_of_all w2 _ _ _ _ _ j hw2, real_of_all u1 _ _ _ _ _ j hu1, real_of_all u2 _ _ _ _ _ j hu2,
    fun i => (const_of_all b1 _ _ _ _ _ _ j hb1 i).trans lit_zero,
    fun i => (const_of_all o1 _ _ _ _ _ _ j ho1 i).trans lit_zero,
    fun i => (const_of_all b2 _ _ _ _ _ _ j hb2 i).trans lit_zero,
    fun i => (const_of_all o2 _ _ _ _ _ _ j ho2 i).trans lit_zero,
    fun i => (const_of_all b3 _ _ _ _ _ _ j hb3 i).trans lit_zero,
    fun i => (const_of_all o3 _ _ _ _ _ _ j ho3 i).trans lit_zero,
    fun i => (const_of_all b4 _ _ _ _ _ _ j hb4 i).trans lit_zero,
    fun i => (const_of_all o4 _ _ _ _ _ _ j ho4 i).trans lit_zero,
    fun i => (const_of_all g1 _ _ _ _ _ _ j hg1 i).trans lit_one,
    fun i => (const_of_all g2 _ _ _ _ _ _ j hg2 i).trans lit_one,
    fun i => (const_of_all g3 _ _ _ _ _ _ j hg3 i).trans lit_one,
    fun i => (const_of_all g4 _ _ _ _ _ _ j hg4 i).trans lit_one⟩

end Cert.Inputs

end
-- ==== Proof.KernelForm.lean ====
/-
  The kernel's value in few words. The printed program unrolls the batch: sixteen times the same operations, on row 0,
  …, row 15 of the values, the reciprocal roots and the mask, cut into values at changing places. Here those operations
  are stated once, for any row (`project`, `column`), and so are the steps that follow (`means`, `dense`, `layer`); the
  kernel's value is `value`, made of sixteen columns (`value_eq`).
-/
module

public import proofs.«01_k».proof.Proof.Gen.KernelIdeal.Value

@[expose] public section

set_option maxRecDepth 16384

noncomputable section

open Idealize.ShloMosaic Cert.KernelIdeal Cert.KernelIdeal.Gen

namespace Cert.KernelForm

variable {F : FTy → Type} [FloatOps F]

/-- Every row lies inside the array. -/
theorem row_inside (b : Fin 16) : S16x4096.Slices ![b.val, 0] S1x4096 := by
  revert b; decide

/-- Row `b` of an array of sixteen rows. -/
def row {e : EltTy} (v : Vec F S16x4096 e) (b : Fin 16) : Vec F S1x4096 e :=
  extractStridedSlice S1x4096 ![b.val, 0] v (row_inside b)

/-- The first layer without its scale, from one row `xr` of values, and the second linear map of it with its mean as
    seventeenth row. -/
def project (w : FVec F S64x1 .f32) (e : FVec F S64x4096 .f32) (u : FVec F S17x64 .f32) (xr : Vec F S1x4096 .f32) :
    FVec F S17x4096 .f32 :=
  matmul dot_S17x64_S64x4096_S17x4096_1_0_0_1_n_n none u
    (maximumf (addf (mulf (broadcastTo S64x4096 w broadcasts_S64x1_S64x4096)
      (broadcastTo S64x4096 xr broadcasts_S1x4096_S64x4096)) e)
      (broadcast S64x4096 (Scalar.ofBits .f32 0x00000000#32)))
    (constant S17x4096 .f32 0x00000000#32)

/-- The masked sum of the second layer over the features, from the projection `y`, the row `r` of reciprocal roots and
    the row `k` of the mask: the two scales and the mask are one factor. -/
def column (a : FVec F S1x16 .f32) (y : FVec F S17x4096 .f32) (r k : FVec F S1x4096 .f32) : FVec F S16x1 .f32 :=
  let yt : FVec F S16x4096 .f32 := extractStridedSlice S16x4096 ![0, 0] y slices_S17x4096_o0_0_S16x4096
  let ym : FVec F S1x4096 .f32 := extractStridedSlice S1x4096 ![16, 0] y slices_S17x4096_o16_0_S1x4096
  let zero : FVec F S1x4096 .f32 := broadcast S1x4096 (Scalar.ofBits .f32 0x00000000#32)
  let sq : FVec F S1x4096 .f32 :=
    matmul dot_S1x16_S16x4096_S1x4096_1_0_0_1_n_n none a (mulf yt yt) (constant S1x4096 .f32 0x00000000#32)
  let root : FVec F S1x4096 .f32 :=
    rsqrt (addf (mulf (maximumf (subf sq (mulf ym ym)) zero) (mulf r r))
      (broadcast S1x4096 (Scalar.ofBits .f32 0x3727C5AC#32)))
  shapeCast S16x1
    (multiReduction .add [1] S16
      (mulf (maximumf (subf yt (broadcastTo S16x4096 ym broadcasts_S1x4096_S16x4096))
        (broadcast S16x4096 (Scalar.ofBits .f32 0x00000000#32)))
        (broadcastTo S16x4096 (mulf k (mulf r root)) broadcasts_S1x4096_S16x4096))
      0x00000000#32 reduces_S16x4096_S16 (.inl rfl) rfl)
    shapeCasts_S16_S16x1

/-- Sixteen columns side by side. -/
def beside (c : Fin 16 → FVec F S16x1 .f32) : FVec F S16x16 .f32 :=
  concatenate S16x16 1 [⟨S16x1, c 0⟩, ⟨S16x1, c 1⟩, ⟨S16x1, c 2⟩, ⟨S16x1, c 3⟩, ⟨S16x1, c 4⟩, ⟨S16x1, c 5⟩,
    ⟨S16x1, c 6⟩, ⟨S16x1, c 7⟩, ⟨S16x1, c 8⟩, ⟨S16x1, c 9⟩, ⟨S16x1, c 10⟩, ⟨S16x1, c 11⟩, ⟨S16x1, c 12⟩,
    ⟨S16x1, c 13⟩, ⟨S16x1, c 14⟩, ⟨S16x1, c 15⟩]
    concatenates_S16x1_S16x1_S16x1_S16x1_S16x1_S16x1_S16x1_S16x1_S16x1_S16x1_S16x1_S16x1_S16x1_S16x1_S16x1_S16x1_S16x16_d1

/-- The masked means, one column per row of the batch, from the sums and the counts. -/
def means (t : FVec F S16x16 .f32) (n : FVec F S16x1 .f32) : FVec F S16x16 .f32 :=
  let c : FVec F S1x16 .f32 := transpose S1x16 [1, 0] n transposes_S16x1_p1_0_S1x16
  select
    (broadcastTo S16x16 (shapeCast S1x16 (cmpf .ogt c (broadcast S1x16 (Scalar.ofBits .f32 0x00000000#32)))
      shapeCasts_S1x16_S1x16) broadcasts_S1x16_S16x16)
    (divf t (broadcastTo S16x16 (maximumf c (broadcast S1x16 (Scalar.ofBits .f32 0x3F800000#32)))
      broadcasts_S1x16_S16x16))
    (broadcast S16x16 (Scalar.ofBits .f32 0x00000000#32))

/-- The third linear map. -/
def dense (p : FVec F S16x16 .f32) (u : Vec F S16x128 .f32) : FVec F S16x128 .f32 :=
  matmul dot_S16x16_S16x128_S16x128_0_0_1_1_n_n none p u (constant S16x128 .f32 0x00000000#32)

/-- The third layer of its linear map. -/
def layer (v : FVec F S16x128 .f32) : FVec F S16x128 .f32 :=
  let m : FVec F S16x1 .f32 :=
    divf (shapeCast S16x1 (multiReduction .add [1] S16 v 0x00000000#32 reduces_S16x128_S16 (.inl rfl) rfl)
      shapeCasts_S16_S16x1) (broadcast S16x1 (Scalar.ofBits .f32 0x43000000#32))
  let q : FVec F S16x1 .f32 :=
    divf (shapeCast S16x1 (multiReduction .add [1] S16 (mulf v v) 0x00000000#32 reduces_S16x128_S16 (.inl rfl) rfl)
      shapeCasts_S16_S16x1) (broadcast S16x1 (Scalar.ofBits .f32 0x43000000#32))
  let root : FVec F S16x1 .f32 :=
    rsqrt (addf (maximumf (subf q (mulf m m)) (broadcast S16x1 (Scalar.ofBits .f32 0x00000000#32)))
      (broadcast S16x1 (Scalar.ofBits .f32 0x3727C5AC#32)))
  mulf (broadcastTo S16x128 root broadcasts_S16x1_S16x128)
    (maximumf (subf v (broadcastTo S16x128 m broadcasts_S16x1_S16x128))
      (broadcast S16x128 (Scalar.ofBits .f32 0x00000000#32)))

/-- The fourth linear map. -/
def dense' (v : FVec F S16x128 .f32) (u : Vec F S128x64 .f32) : FVec F S16x64 .f32 :=
  matmul dot_S16x128_S128x64_S16x64_1_0_0_1_n_n none v u (constant S16x64 .f32 0x00000000#32)

variable (x : Vec F S16x4096 .f32) (k : Vec F S16x4096 .i32) (e : Vec F S4096x16 .f32) (w1 : Vec F S17x64 .f32)
  (w2 : Vec F S64x16 .f32) (u1 : Vec F S16x128 .f32) (u2 : Vec F S128x64 .f32)

/-- The reciprocal roots of the first layer, for all rows and features at once. -/
def roots : FVec F S16x4096 .f32 :=
  k0_pay19 (k0_pay7 w1) (k0_pay11 w1 e) (k0_pay12 w1 e) (k0_pay13 w1 e) x (k0_pay18 w1)

/-- What the sixteen unrolled blocks compute, for row `b`. -/
def sums (b : Fin 16) : FVec F S16x1 .f32 :=
  column k0_pay15 (project (k0_pay8 w1) (k0_pay14 w1 e) (k0_pay16 w2) (row x b)) (row (e := .f32) (roots x e w1) b)
    (row (e := .f32) (k0_pay17 k) b)

/-- The whole value before the last layer. -/
def value : FVec F S16x64 .f32 :=
  dense' (layer (dense (means (beside (sums x k e w1 w2)) (k0_pay20 (k0_pay17 k))) u1)) u2

/-- The printed value is this one: the loads read whole arrays, and the sixteen printed blocks are `sums` at 0, …, 15. -/
theorem value_eq : k0_pay108 x k e w1 w2 u1 u2 = value x k e w1 w2 u1 u2 := by
  have h : (![0, 0] : Fin 2 → Nat) = fun _ => 0 := funext fun a => by fin_cases a <;> rfl
  have l0 : View.ld w1 r0_0 = w1 := View.ld_unit_zero h _ _
  have l1 : View.ld e r0_1 = e := View.ld_unit_zero h _ _
  have l2 : View.ld w2 r0_2 = w2 := View.ld_unit_zero h _ _
  have l3 : View.ld x r0_3 = x := View.ld_unit_zero h _ _
  have l3' : View.ld k r0_3 = k := View.ld_unit_zero h _ _
  have l4 : View.ld u1 r0_4 = u1 := View.ld_unit_zero h _ _
  have l5 : View.ld u2 r0_5 = u2 := View.ld_unit_zero h _ _
  unfold k0_pay108 k0_pay107 k0_pay106 k0_pay105 k0_pay104 k0_pay103 k0_pay102 k0_pay101 k0_pay100 k0_pay99 k0_pay98
  rw [l0, l1, l2, l3, l3', l4, l5]
  rfl

end Cert.KernelForm

end
-- ==== Proof.KernelLayers.lean ====
/-
  What the kernel computes: each step of `KernelForm.value`, read at an index, is the coercion of the matching real
  expression, and the whole is the network of `Net`, for weights and values that are real numbers.
-/
module

public import proofs.«01_k».proof.Proof.KernelForm
public import proofs.«01_k».proof.Proof.Norm

@[expose] public section

set_option maxRecDepth 16384

noncomputable section

open Idealize.ShloMosaic Cert.KernelIdeal Cert.KernelIdeal.Gen Cert.KernelForm Cert.Norm
open scoped BigOperators

namespace Cert.KernelLayers

variable {X : Fin 16 → Fin 4096 → ℝ} {M : Fin 16 → Fin 4096 → ℝ} {E : Fin 4096 → Fin 16 → ℝ}
  {W1 : Fin 17 → Fin 64 → ℝ} {W2 : Fin 64 → Fin 16 → ℝ} {U1 : Fin 16 → Fin 128 → ℝ} {U2 : Fin 128 → Fin 64 → ℝ}
  {x : Vec Ideal S16x4096 .f32} {k : Vec Ideal S16x4096 .i32} {e : Vec Ideal S4096x16 .f32} {w1 : Vec Ideal S17x64 .f32}
  {w2 : Vec Ideal S64x16 .f32} {u1 : Vec Ideal S16x128 .f32} {u2 : Vec Ideal S128x64 .f32}

/-! ## The first layer's ingredients -/

section First

variable (hw1 : ∀ t i, w1 (ix2 t i) = ((W1 t i : ℝ) : EReal)) (he : ∀ j d, e (ix2 j d) = ((E j d : ℝ) : EReal))

include hw1

/-- The mean of the value's weight row. -/
theorem meanW : k0_pay6 w1 = ((Net.mean (W1 0) : ℝ) : EReal) := by
  pointwise [k0_pay6, k0_pay5]
  simp only [hw1, lit_64, sum_coe, Finset.univ_unique, Finset.sum_singleton, div_coe_coe ne_64]
  rfl

/-- The mean square of the value's weight row. -/
theorem squareW : k0_pay7 w1 = (((∑ i, W1 0 i * W1 0 i) / 64 : ℝ) : EReal) := by
  pointwise [k0_pay7, k0_pay5]
  simp only [hw1, lit_64, ← EReal.coe_mul, sum_coe, Finset.univ_unique, Finset.sum_singleton, div_coe_coe ne_64]

/-- The value's weight row less its mean, as a column. -/
theorem devW_apply (i : Fin 64) : k0_pay8 w1 (ix2 i 0) = ((W1 0 i - Net.mean (W1 0) : ℝ) : EReal) := by
  pointwise [k0_pay8, k0_pay4]
  rw [meanW hw1, hw1, ← EReal.coe_sub]

include he

/-- The embedding's share of the first linear map. -/
theorem emb_apply (i : Fin 64) (j : Fin 4096) : k0_pay9 w1 e (ix2 i j) = ((Net.emb E W1 j i : ℝ) : EReal) := by
  pointwise [k0_pay9, k0_pay4]
  simp only [hw1, he, Net.after_first, ← EReal.coe_mul, sum_coe, Net.emb, mul_comm]

/-- Its mean over the features of the layer. -/
theorem meanE_apply (j : Fin 4096) : k0_pay11 w1 e (ix2 0 j) = ((Net.mean (Net.emb E W1 j) : ℝ) : EReal) := by
  pointwise [k0_pay11, k0_pay10]
  simp only [emb_apply hw1 he, lit_64th, ← EReal.coe_mul, sum_coe, ← Finset.mul_sum, Net.mean]
  norm_num [div_eq_inv_mul]

/-- The cross term of the mean square. -/
theorem cross_apply (j : Fin 4096) :
    k0_pay12 w1 e (ix2 0 j) = ((∑ i, W1 0 i * (1 / 64) * Net.emb E W1 j i : ℝ) : EReal) := by
  pointwise [k0_pay12, k0_pay5]
  simp only [emb_apply hw1 he, hw1, lit_64th, ← EReal.coe_mul, sum_coe]

/-- The embedding's mean square. -/
theorem squareE_apply (j : Fin 4096) :
    k0_pay13 w1 e (ix2 0 j) = ((∑ i, 1 / 64 * (Net.emb E W1 j i * Net.emb E W1 j i) : ℝ) : EReal) := by
  pointwise [k0_pay13, k0_pay10]
  simp only [emb_apply hw1 he, lit_64th, ← EReal.coe_mul, sum_coe]

/-- The embedding's share less its mean. -/
theorem devE_apply (i : Fin 64) (j : Fin 4096) :
    k0_pay14 w1 e (ix2 i j) = ((Net.emb E W1 j i - Net.mean (Net.emb E W1 j) : ℝ) : EReal) := by
  pointwise [k0_pay14]
  rw [emb_apply hw1 he, meanE_apply hw1 he, ← EReal.coe_sub]

/-- The reciprocal roots of the first layer. -/
theorem roots_apply (hx : ∀ b j, x (ix2 b j) = ((X b j : ℝ) : EReal)) (b : Fin 16) (j : Fin 4096) :
    roots x e w1 (ix2 b j) = ((Net.scale X E W1 b j : ℝ) : EReal) := by
  pointwise [roots, k0_pay19, k0_pay18]
  rw [meanW hw1, squareW hw1, cross_apply hw1 he, squareE_apply hw1 he, meanE_apply hw1 he, hx, lit_2, lit_eps]
  simp only [← EReal.coe_zero, ← EReal.coe_mul, ← EReal.coe_add, ← EReal.coe_sub, max_coe]
  rw [Net.var_lin1, max_eq_left (Net.var_nonneg _), rsqrt_pos_coe (Net.var_eps_pos _)]
  rfl

end First

/-! ## One row of the batch -/

/-- Row `b`, read. -/
theorem row_apply {t : EltTy} (v : Vec Ideal S16x4096 t) (b : Fin 16) (j : Fin 4096) : row v b (ix2 0 j) = v (ix2 b j) := by
  pointwise [row]

section Row

variable (hw2 : ∀ i d, w2 (ix2 i d) = ((W2 i d : ℝ) : EReal))

include hw2

/-- The second weight transposed: its first sixteen rows. -/
theorem aug_apply (d : Fin 16) (i : Fin 64) (h : (d : ℕ) < 17) : k0_pay16 w2 (ix2 ⟨d, h⟩ i) = ((W2 i d : ℝ) : EReal) := by
  pointwise [k0_pay16, k0_pay15]
  exact hw2 i d

/-- Its seventeenth row: the mean of the sixteen. -/
theorem augMean_apply (i : Fin 64) : k0_pay16 w2 (ix2 16 i) = ((∑ d, 1 / 16 * W2 i d : ℝ) : EReal) := by
  pointwise [k0_pay16, k0_pay15]
  simp only [hw2, lit_16th, ← EReal.coe_mul, sum_coe]

variable (hw1 : ∀ t i, w1 (ix2 t i) = ((W1 t i : ℝ) : EReal)) (he : ∀ j d, e (ix2 j d) = ((E j d : ℝ) : EReal))
  (hx : ∀ b j, x (ix2 b j) = ((X b j : ℝ) : EReal))

include hw1 he hx

/-- The projection of row `b`. -/
theorem project_apply (b : Fin 16) (j : Fin 4096) (d : Fin 17) (c : Fin 64 → ℝ)
    (hc : ∀ i, k0_pay16 w2 (ix2 d i) = ((c i : ℝ) : EReal)) :
    project (k0_pay8 w1) (k0_pay14 w1 e) (k0_pay16 w2) (row x b) (ix2 d j)
      = ((∑ i, c i * Net.unscaled X E W1 b j i : ℝ) : EReal) := by
  pointwise [project]
  simp only [hc, devW_apply hw1, devE_apply hw1 he, row_apply, hx, ← EReal.coe_zero, ← EReal.coe_mul, ← EReal.coe_add,
    max_coe, sum_coe, Net.dev_lin1]
  rfl

/-- Column `b`: the masked sums of row `b`. -/
theorem sums_apply (hk : ∀ b j, k0_pay17 k (ix2 b j) = ((M b j : ℝ) : EReal)) (b d : Fin 16) :
    sums x k e w1 w2 b (ix2 d 0) = ((Net.total X M E W1 W2 b d : ℝ) : EReal) := by
  have hy (j : Fin 4096) (d : Fin 16) (h : (d : ℕ) < 17) :=
    project_apply hw2 hw1 he hx b j ⟨d, h⟩ (fun i => W2 i d) (aug_apply hw2 d · h)
  have hm (j : Fin 4096) := project_apply hw2 hw1 he hx b j 16 _ (augMean_apply hw2)
  unfold sums
  generalize project (k0_pay8 w1) (k0_pay14 w1 e) (k0_pay16 w2) (row x b) = y at *
  pointwise [column, k0_pay15]
  rw [Net.total, ← sum_coe]
  refine Finset.sum_congr rfl fun j _ => ?_
  have hp (d : Fin 16) (h : (d : ℕ) < 17) : y (ix2 ⟨d, h⟩ j) = ((Net.proj X E W1 W2 b j d : ℝ) : EReal) := hy j d h
  rw [hm, Net.mean_proj, row_apply, row_apply, roots_apply hw1 he hx, hk, lit_16th, lit_eps]
  simp only [hp, ← EReal.coe_zero, ← EReal.coe_mul, ← EReal.coe_add, ← EReal.coe_sub, max_coe, sum_coe]
  have hv := Net.var_nonneg (Net.proj X E W1 W2 b j)
  have hr := mul_self_nonneg (Net.scale X E W1 b j)
  rw [Net.var_sixteen, max_eq_left hv, rsqrt_pos_coe (add_pos_of_nonneg_of_pos (mul_nonneg hv hr) Net.eps_pos),
    Net.act_lin2]
  simp only [← EReal.coe_mul]
  congr 1
  ring

end Row

/-! ## The masked means and the last two layers -/

/-- Sixteen columns side by side, read. -/
theorem beside_apply (c : Fin 16 → FVec Ideal S16x1 .f32) (d b : Fin 16) : beside c (ix2 d b) = c b (ix2 d 0) := by
  refine concatenate_ofFn_apply (t := S16x16) (s₁ := S16x1) 1 c _ rfl 1 rfl (ix2 d b) b (Nat.div_one _) (ix2 d 0)
    (Nat.mod_one _).symm fun a ha => ?_
  match a with
  | 0 => rfl
  | 1 => exact absurd rfl ha

section Last

variable (hk : ∀ b j, k0_pay17 k (ix2 b j) = ((M b j : ℝ) : EReal))
  (hs : ∀ b d, sums x k e w1 w2 b (ix2 d 0) = ((Net.total X M E W1 W2 b d : ℝ) : EReal))

include hk

/-- The counts. -/
theorem count_apply (b : Fin 16) : k0_pay20 (k0_pay17 k) (ix2 b 0) = ((Net.count M b : ℝ) : EReal) := by
  pointwise [k0_pay20]
  simp only [hk, sum_coe]
  rfl

include hs

/-- The masked means, one column per row of the batch. -/
theorem pool_apply (d b : Fin 16) :
    means (beside (sums x k e w1 w2)) (k0_pay20 (k0_pay17 k)) (ix2 d b) = ((Net.pooled X M E W1 W2 b d : ℝ) : EReal) := by
  pointwise [means]
  rw [count_apply hk, beside_apply, hs]
  exact pooled_coe _ _

variable (hu1 : ∀ d h, u1 (ix2 d h) = ((U1 d h : ℝ) : EReal)) (hu2 : ∀ h z, u2 (ix2 h z) = ((U2 h z : ℝ) : EReal))

include hu1

/-- The third linear map. -/
theorem lin3_apply (b : Fin 16) (h : Fin 128) :
    dense (means (beside (sums x k e w1 w2)) (k0_pay20 (k0_pay17 k))) u1 (ix2 b h)
      = ((Net.lin3 X M E W1 W2 U1 b h : ℝ) : EReal) := by
  pointwise [dense]
  simp only [pool_apply hk hs, hu1, ← EReal.coe_mul, sum_coe]
  rfl

omit hk hs hu1 in
/-- The third layer of a linear map with real entries. -/
theorem layer_apply (v : FVec Ideal S16x128 .f32) (f : Fin 16 → Fin 128 → ℝ)
    (hv : ∀ b h, v (ix2 b h) = ((f b h : ℝ) : EReal)) (b : Fin 16) (h : Fin 128) :
    layer v (ix2 b h) = ((Net.act (f b) h : ℝ) : EReal) := by
  pointwise [layer]
  simp only [hv, lit_128, lit_eps]
  exact kernel_layer nat_128 ne_128 (f b) h

omit hk hs hu1 in
/-- The fourth layer of a linear map with real entries. -/
theorem last_apply (v : FVec Ideal S16x64 .f32) (f : Fin 16 → Fin 64 → ℝ)
    (hv : ∀ b z, v (ix2 b z) = ((f b z : ℝ) : EReal)) (b : Fin 16) (z : Fin 64) :
    k0_pay1 v (ix2 b z) = ((Net.act (f b) z : ℝ) : EReal) := by
  pointwise [k0_pay1]
  simp only [hv, lit_64, lit_eps]
  exact kernel_layer nat_64 ne_64 (f b) z

include hu2

/-- The fourth linear map. -/
theorem lin4_apply (b : Fin 16) (z : Fin 64) :
    value x k e w1 w2 u1 u2 (ix2 b z) = ((Net.lin4 X M E W1 W2 U1 U2 b z : ℝ) : EReal) := by
  pointwise [value, dense']
  simp only [layer_apply _ _ (lin3_apply hk hs hu1), hu2, ← EReal.coe_mul, sum_coe]
  rfl

end Last

/-- The kernel's last layer, of which its two results are the halves. -/
theorem out_apply (hx : ∀ b j, x (ix2 b j) = ((X b j : ℝ) : EReal))
    (hk : ∀ b j, k0_pay17 k (ix2 b j) = ((M b j : ℝ) : EReal)) (he : ∀ j d, e (ix2 j d) = ((E j d : ℝ) : EReal))
    (hw1 : ∀ t i, w1 (ix2 t i) = ((W1 t i : ℝ) : EReal)) (hw2 : ∀ i d, w2 (ix2 i d) = ((W2 i d : ℝ) : EReal))
    (hu1 : ∀ d h, u1 (ix2 d h) = ((U1 d h : ℝ) : EReal)) (hu2 : ∀ h z, u2 (ix2 h z) = ((U2 h z : ℝ) : EReal))
    (b : Fin 16) (z : Fin 64) :
    k0_pay1 (k0_pay108 x k e w1 w2 u1 u2) (ix2 b z) = ((Net.out X M E W1 W2 U1 U2 b z : ℝ) : EReal) := by
  rw [value_eq]
  exact last_apply _ _ (lin4_apply hk (sums_apply hw2 hw1 he hx hk) hu1 hu2) b z

end Cert.KernelLayers

end
-- ==== Proof.RefLayers.lean ====
/-
  What the reference computes: each of its named stages, read at an index, is the coercion of the matching stage of
  the network over the reals (`Net`), for weights and values that are real numbers, offsets 0 and gains 1.
-/
module

public import proofs.«01_k».proof.Proof.Gen.ReferenceIdeal.Run
public import proofs.«01_k».proof.Proof.Norm
public import Idealize.ShloMosaic.Lib.Tactic.CleanTypes

@[expose] public section

set_option maxRecDepth 16384

noncomputable section

open Idealize.ShloMosaic Cert.ReferenceIdeal Cert.ReferenceIdeal.Gen Cert.ReferenceIdeal.Value Cert.Norm
open scoped BigOperators

namespace Cert.RefLayers

variable {X : Fin 16 → Fin 4096 → ℝ} {M : Fin 16 → Fin 4096 → ℝ} {E : Fin 4096 → Fin 16 → ℝ}
  {W1 : Fin 17 → Fin 64 → ℝ} {W2 : Fin 64 → Fin 16 → ℝ} {U1 : Fin 16 → Fin 128 → ℝ} {U2 : Fin 128 → Fin 64 → ℝ}
  {V : Valuation τ sig (Elt Ideal)}

/-- The argument arrays of the reference hold the real numbers `X`, `E`, `W1`, `W2`, `U1`, `U2`, the mask words read as
    `M`, offsets 0 and gains 1. -/
structure Holds (X : Fin 16 → Fin 4096 → ℝ) (M : Fin 16 → Fin 4096 → ℝ) (E : Fin 4096 → Fin 16 → ℝ)
    (W1 : Fin 17 → Fin 64 → ℝ) (W2 : Fin 64 → Fin 16 → ℝ) (U1 : Fin 16 → Fin 128 → ℝ) (U2 : Fin 128 → Fin 64 → ℝ)
    (V : Valuation τ sig (Elt Ideal)) : Prop where
  x : ∀ b j, V (Proc.devRef .tc main_arg0) (ix2 b j) = ((X b j : ℝ) : EReal)
  m : ∀ b j, FloatOps.sitofp (F := Ideal) .f32 (V (Proc.devRef .tc main_arg1) (ix2 b j)) = ((M b j : ℝ) : EReal)
  e : ∀ j d, V (Proc.devRef .tc main_arg2) (ix2 j d) = ((E j d : ℝ) : EReal)
  w1 : ∀ t k, V (Proc.devRef .tc main_arg3) (ix2 t k) = ((W1 t k : ℝ) : EReal)
  w2 : ∀ k d, V (Proc.devRef .tc main_arg7) (ix2 k d) = ((W2 k d : ℝ) : EReal)
  u1 : ∀ d h, V (Proc.devRef .tc main_arg11) (ix2 d h) = ((U1 d h : ℝ) : EReal)
  u2 : ∀ h z, V (Proc.devRef .tc main_arg15) (ix2 h z) = ((U2 h z : ℝ) : EReal)
  b1 : ∀ k, V (Proc.devRef .tc main_arg4) (ix1 k) = (0 : EReal)
  g1 : ∀ k, V (Proc.devRef .tc main_arg5) (ix1 k) = (1 : EReal)
  o1 : ∀ k, V (Proc.devRef .tc main_arg6) (ix1 k) = (0 : EReal)
  b2 : ∀ d, V (Proc.devRef .tc main_arg8) (ix1 d) = (0 : EReal)
  g2 : ∀ d, V (Proc.devRef .tc main_arg9) (ix1 d) = (1 : EReal)
  o2 : ∀ d, V (Proc.devRef .tc main_arg10) (ix1 d) = (0 : EReal)
  b3 : ∀ h, V (Proc.devRef .tc main_arg12) (ix1 h) = (0 : EReal)
  g3 : ∀ h, V (Proc.devRef .tc main_arg13) (ix1 h) = (1 : EReal)
  o3 : ∀ h, V (Proc.devRef .tc main_arg14) (ix1 h) = (0 : EReal)
  b4 : ∀ z, V (Proc.devRef .tc main_arg16) (ix1 z) = (0 : EReal)
  g4 : ∀ z, V (Proc.devRef .tc main_arg17) (ix1 z) = (1 : EReal)
  o4 : ∀ z, V (Proc.devRef .tc main_arg18) (ix1 z) = (0 : EReal)

variable (H : Holds X M E W1 W2 U1 U2 V)
include H

/-- The first linear map. -/
theorem lin1_apply (b : Fin 16) (j : Fin 4096) (k : Fin 64) :
    res_main_v7 V (ix3 b j k) = ((Net.lin1 X E W1 b j k : ℝ) : EReal) := by
  unfold res_main_v7
  clean_types
  pointwise
  simp only [H.x, H.e, H.w1, H.b1, add_zero, ← EReal.coe_mul, sum_coe, ← EReal.coe_add, Net.after_first,
    Finset.univ_unique, Finset.sum_singleton]
  rfl

omit H in
/-- The divisor of the first variance. -/
theorem width1 : res_main_call0_v8 V ix0 = ((64 : ℝ) : EReal) := by
  unfold res_main_call0_v8
  clean_types
  pointwise
  rw [lit_64, sitofp_coe, ← EReal.coe_sub]
  norm_num

/-- The first linear map less its mean. -/
theorem dev1_apply (b : Fin 16) (j : Fin 4096) (k : Fin 64) :
    res_main_call0_v5 V (ix3 b j k)
      = ((Net.lin1 X E W1 b j k - Net.mean (Net.lin1 X E W1 b j) : ℝ) : EReal) := by
  unfold res_main_call0_v5
  clean_types
  pointwise
  simp only [lin1_apply H, lit_64, sum_coe, div_coe_coe (show (64 : ℝ) ≠ 0 by norm_num), ← EReal.coe_sub]
  rfl

/-- The second linear map. -/
theorem lin2_apply (b : Fin 16) (j : Fin 4096) (d : Fin 16) :
    res_main_v30 V (ix3 b j d) = ((Net.lin2 X E W1 W2 b j d : ℝ) : EReal) := by
  unfold res_main_v30
  clean_types
  pointwise
  simp only [lin1_apply H, dev1_apply H, width1, lit_64, lit_eps, H.g1, H.o1, H.b2, H.w2, if_pos pos_64, sum_coe,
    div_coe_coe ne_64, ← EReal.coe_sub, ← EReal.coe_mul, mul_one, add_zero, ref_layer nat_64]
  rfl

omit H in
/-- The divisor of the second variance. -/
theorem width2 : res_main_call2_v8 V ix0 = ((16 : ℝ) : EReal) := by
  unfold res_main_call2_v8
  clean_types
  pointwise
  rw [lit_16, sitofp_coe, ← EReal.coe_sub]
  norm_num

/-- The second linear map less its mean. -/
theorem dev2_apply (b : Fin 16) (j : Fin 4096) (d : Fin 16) :
    res_main_call2_v5 V (ix3 b j d)
      = ((Net.lin2 X E W1 W2 b j d - Net.mean (Net.lin2 X E W1 W2 b j) : ℝ) : EReal) := by
  unfold res_main_call2_v5
  clean_types
  pointwise
  simp only [lin2_apply H, lit_16, sum_coe, div_coe_coe ne_16, ← EReal.coe_sub]
  rfl

/-- The count of kept features. -/
theorem count_apply (b : Fin 16) : res_main_v57 V (ix2 b 0) = ((Net.count M b : ℝ) : EReal) := by
  unfold res_main_v57
  clean_types
  pointwise
  simp only [H.m, sum_coe]
  rfl

omit H in
/-- The value taken where the count is not positive. -/
theorem zero_apply : id (constant (F := Ideal) S_ .f32 0x00000000#32) ix0 = (0 : EReal) := Ideal.ofBits_zero_f32

/-- The third linear map. -/
theorem lin3_apply (b : Fin 16) (h : Fin 128) :
    res_main_v68 V (ix2 b h) = ((Net.lin3 X M E W1 W2 U1 b h : ℝ) : EReal) := by
  unfold res_main_v68
  clean_types
  pointwise
  simp only [lin2_apply H, dev2_apply H, count_apply H, width2, lit_16, lit_eps, H.g2, H.o2, H.b3, H.u1, H.m,
    if_pos pos_16, sum_coe, div_coe_coe ne_16, ← EReal.coe_sub, ← EReal.coe_mul, mul_one, add_zero, ref_layer nat_16,
    zero_apply, pooled_coe]
  rfl

omit H in
/-- The divisor of the third variance. -/
theorem width3 : res_main_call5_v8 V ix0 = ((128 : ℝ) : EReal) := by
  unfold res_main_call5_v8
  clean_types
  pointwise
  rw [lit_128, sitofp_coe, ← EReal.coe_sub]
  norm_num

/-- The third linear map less its mean. -/
theorem dev3_apply (b : Fin 16) (h : Fin 128) :
    res_main_call5_v5 V (ix2 b h)
      = ((Net.lin3 X M E W1 W2 U1 b h - Net.mean (Net.lin3 X M E W1 W2 U1 b) : ℝ) : EReal) := by
  unfold res_main_call5_v5
  clean_types
  pointwise
  simp only [lin3_apply H, lit_128, sum_coe, div_coe_coe ne_128, ← EReal.coe_sub]
  rfl

/-- The fourth linear map. -/
theorem lin4_apply (b : Fin 16) (z : Fin 64) :
    res_main_v91 V (ix2 b z) = ((Net.lin4 X M E W1 W2 U1 U2 b z : ℝ) : EReal) := by
  unfold res_main_v91
  clean_types
  pointwise
  simp only [lin3_apply H, dev3_apply H, width3, lit_128, lit_eps, H.g3, H.o3, H.b4, H.u2, if_pos pos_128, sum_coe,
    div_coe_coe ne_128, ← EReal.coe_sub, ← EReal.coe_mul, mul_one, add_zero, ref_layer nat_128]
  rfl

omit H in
/-- The divisor of the fourth variance. -/
theorem width4 : res_main_call7_v8 V ix0 = ((64 : ℝ) : EReal) := by
  unfold res_main_call7_v8
  clean_types
  pointwise
  rw [lit_64, sitofp_coe, ← EReal.coe_sub]
  norm_num

/-- The fourth linear map less its mean. -/
theorem dev4_apply (b : Fin 16) (z : Fin 64) :
    res_main_call7_v5 V (ix2 b z)
      = ((Net.lin4 X M E W1 W2 U1 U2 b z - Net.mean (Net.lin4 X M E W1 W2 U1 U2 b) : ℝ) : EReal) := by
  unfold res_main_call7_v5
  clean_types
  pointwise
  simp only [lin4_apply H, lit_64, sum_coe, div_coe_coe ne_64, ← EReal.coe_sub]
  rfl

/-- The reference's last stage, of which its two results are the halves. -/
theorem out_apply (b : Fin 16) (z : Fin 64) :
    res_main_v110 V (ix2 b z) = ((Net.out X M E W1 W2 U1 U2 b z : ℝ) : EReal) := by
  unfold res_main_v110
  clean_types
  pointwise
  simp only [lin4_apply H, dev4_apply H, width4, lit_64, lit_eps, H.g4, H.o4, if_pos pos_64, sum_coe,
    div_coe_coe ne_64, ← EReal.coe_sub, ← EReal.coe_mul, mul_one, add_zero, ref_layer nat_64]
  rfl

end Cert.RefLayers

end
-- ==== Proof.Equation.lean ====
/-
  The equation: from arguments as the precondition asks, the kernel's last layer is the reference's, so that each of
  the two results, a half of it, is the reference's.
-/
module

public import proofs.«01_k».proof.Proof.Inputs
public import proofs.«01_k».proof.Proof.KernelLayers
public import proofs.«01_k».proof.Proof.RefLayers
public import Idealize.ShloMosaic.Lib.Pointwise

@[expose] public section

noncomputable section

open Idealize.ShloMosaic

namespace Cert.Equation

open Cert.ReferenceIdeal

variable (V : Valuation τ sig (Elt Ideal)) {x : FVec Ideal S16x4096 .f32} {k : IVec S16x4096 32}
  {e : FVec Ideal S4096x16 .f32} {w1 : FVec Ideal S17x64 .f32} {b1 g1 o1 : FVec Ideal S64 .f32}
  {w2 : FVec Ideal S64x16 .f32} {b2 g2 o2 : FVec Ideal S16 .f32} {u1 : FVec Ideal S16x128 .f32}
  {b3 g3 o3 : FVec Ideal S128 .f32} {u2 : FVec Ideal S128x64 .f32} {b4 g4 o4 : FVec Ideal S64 .f32}

/-- The last layers agree, at every entry: both are the real network's. -/
theorem last_eq (G : Cert.Inputs.Good x e w1 b1 g1 o1 w2 b2 g2 o2 u1 b3 g3 o3 u2 b4 g4 o4)
    (h0 : V (Proc.devRef .tc main_arg0) = x)
    (h1 : V (Proc.devRef .tc main_arg1) = k)
    (h2 : V (Proc.devRef .tc main_arg2) = e)
    (h3 : V (Proc.devRef .tc main_arg3) = w1)
    (h4 : V (Proc.devRef .tc main_arg4) = b1)
    (h5 : V (Proc.devRef .tc main_arg5) = g1)
    (h6 : V (Proc.devRef .tc main_arg6) = o1)
    (h7 : V (Proc.devRef .tc main_arg7) = w2)
    (h8 : V (Proc.devRef .tc main_arg8) = b2)
    (h9 : V (Proc.devRef .tc main_arg9) = g2)
    (h10 : V (Proc.devRef .tc main_arg10) = o2)
    (h11 : V (Proc.devRef .tc main_arg11) = u1)
    (h12 : V (Proc.devRef .tc main_arg12) = b3)
    (h13 : V (Proc.devRef .tc main_arg13) = g3)
    (h14 : V (Proc.devRef .tc main_arg14) = o3)
    (h15 : V (Proc.devRef .tc main_arg15) = u2)
    (h16 : V (Proc.devRef .tc main_arg16) = b4)
    (h17 : V (Proc.devRef .tc main_arg17) = g4)
    (h18 : V (Proc.devRef .tc main_arg18) = o4) :
    Cert.KernelIdeal.Gen.k0_pay1 (F := Ideal) (Cert.KernelIdeal.Gen.k0_pay108 x k e w1 w2 u1 u2)
      = Value.res_main_v110 V := by
  funext i
  idx_vars i
  rw [Cert.KernelLayers.out_apply (fun b j => G.x (ix2 b j))
    (M := fun b j => ((BitVec.toInt (k (ix2 b j)) : ℤ) : ℝ)) (fun b j => rfl)
    (fun j d => G.e (ix2 j d)) (fun t i => G.w1 (ix2 t i)) (fun i d => G.w2 (ix2 i d)) (fun d h => G.u1 (ix2 d h))
    (fun h z => G.u2 (ix2 h z)) i0 i1]
  refine (Cert.RefLayers.out_apply ?_ i0 i1).symm
  subst h0 h1 h2 h3 h4 h5 h6 h7 h8 h9 h10 h11 h12 h13 h14 h15 h16 h17 h18
  exact ⟨fun b j => G.x (ix2 b j), fun b j => rfl, fun j d => G.e (ix2 j d), fun t i => G.w1 (ix2 t i),
    fun i d => G.w2 (ix2 i d), fun d h => G.u1 (ix2 d h), fun h z => G.u2 (ix2 h z),
    fun i => G.b1 _, fun i => G.g1 _, fun i => G.o1 _, fun i => G.b2 _, fun i => G.g2 _, fun i => G.o2 _,
    fun i => G.b3 _, fun i => G.g3 _, fun i => G.o3 _, fun i => G.b4 _, fun i => G.g4 _, fun i => G.o4 _⟩

end Cert.Equation

end
-- ==== Proof.lean ====
/-
  The claims of this directory, proved: the frames of the three programs, and the equality of the kernel's and the
  reference's results over the extended reals. The mathematics is in Proof/: Net (the network over the reals), Norm
  (one layer, in both spellings), KernelForm and KernelLayers (the kernel's value), RefLayers (the reference's), Inputs
  (the precondition), Equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_layer_norms_at_init
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The printed kernel ends, its arguments unchanged and its counters at zero. -/
theorem frame_kernel : Cert.quiescent_Kernel := fun m ρ _ => Cert.Kernel.Gen.frame m ρ

/-- So does it over the extended reals. -/
theorem frame_kernel_ideal : Cert.quiescent_KernelIdeal := fun m ρ _ => Cert.KernelIdeal.Gen.frame m ρ

/-- The reference ends, its arguments unchanged and its counters at zero. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the precondition, the kernel's two results over the extended reals are the reference's. -/
theorem results_equal : Cert.algebraic_KernelIdeal_ReferenceIdeal_pre_layer_norms_at_init := by
  intro m ρ m' ρ' hpre hagree
  refine ⟨_, _, Cert.KernelIdeal.Value.run (F := Ideal) m ρ, ?_⟩
  refine (θ_run Cert.ReferenceIdeal.defs _ _).mono (fun r h c => ?_) (Cert.ReferenceIdeal.Value.run (F := Ideal) m' ρ')
  have good := Cert.Inputs.good_of_pre _ _ _ _ _ _ _ _ _ _ _ _ _ _ _ _ _ _ _ (hpre c)
  refine ⟨(h c).1.trans ?_, (h c).2.1.trans ?_, (h c).2.2⟩ <;> clear h
  all_goals
    obtain ⟨h0, h1, h2, h3, h4, h5, h6, h7, h8, h9, h10, h11, h12, h13, h14, h15, h16, h17, h18⟩ := hagree c
    clear hagree hpre
    exact congrArg (fun v => extractStridedSlice Cert.ReferenceIdeal.S16x32 _ v _)
      (Cert.Equation.last_eq (Idealize.ShloMosaic.StableHlo.launchContents m' c) good h0 h1 h2 h3 h4 h5 h6 h7 h8 h9 h10 h11 h12 h13 h14 h15 h16 h17
        h18).symm

/-- All the claims of this directory. -/
theorem claim : Cert.Claim :=
  ⟨Cert.Kernel.Gen.facts, Cert.KernelIdeal.Gen.facts, Cert.ReferenceIdeal.Gen.facts,
    Cert.Pre_layer_norms_at_init.Gen.facts, frame_kernel, frame_kernel_ideal,
    fun m ρ _ => Cert.KernelIdeal.Gen.frame m ρ, frame_reference, fun m ρ _ => frame_reference m ρ trivial, trivial,
    results_equal⟩

end Cert.Proof

end
